-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coords_in_grid [hPre_coords_in_grid : Cert.Pre_coords_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_coords_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_coords_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coords_in_grid [hPre_coords_in_grid : Cert.Pre_coords_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_coords_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_coords_in_grid [hKernelIdeal : Cert.KernelIdeal.Facts] [hPre_coords_in_grid : Cert.Pre_coords_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coords_in_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_coords_in_grid [hReferenceIdeal : Cert.ReferenceIdeal.Facts] [hPre_coords_in_grid : Cert.Pre_coords_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coords_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_coords_in_grid [hKernelIdeal : Cert.KernelIdeal.Facts] [hReferenceIdeal : Cert.ReferenceIdeal.Facts] [hPre_coords_in_grid : Cert.Pre_coords_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coords_in_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_coords_in_grid : Cert.Pre_coords_in_grid.Facts),
    quiescent_Kernel (hKernel := hKernel)
    ∧ quiescent_KernelIdeal (hKernelIdeal := hKernelIdeal)
    ∧ quiescent_KernelIdeal_pre_coords_in_grid (hKernelIdeal := hKernelIdeal) (hPre_coords_in_grid := hPre_coords_in_grid)
    ∧ quiescent_ReferenceIdeal (hReferenceIdeal := hReferenceIdeal)
    ∧ quiescent_ReferenceIdeal_pre_coords_in_grid (hReferenceIdeal := hReferenceIdeal) (hPre_coords_in_grid := hPre_coords_in_grid)
    ∧ preserves_Kernel_KernelIdeal
    ∧ algebraic_KernelIdeal_ReferenceIdeal_pre_coords_in_grid (hKernelIdeal := hKernelIdeal) (hReferenceIdeal := hReferenceIdeal) (hPre_coords_in_grid := hPre_coords_in_grid)
-- ==== Pre_coords_in_grid.lean ====
abbrev S2048x512 : Shape := ⟨2, ![2048, 512]⟩
abbrev S2048x4 : Shape := ⟨2, ![2048, 4]⟩
abbrev S8192x4 : Shape := ⟨2, ![8192, 4]⟩
abbrev S_ : Shape := ⟨0, ![]⟩

class Facts : Prop where
  bcast_S_S2048x4 : S_.BroadcastsInDim S2048x4 (![] : Fin 0 → Fin S2048x4.rank)
  bcast_S_S8192x4 : S_.BroadcastsInDim S8192x4 (![] : Fin 0 → Fin S8192x4.rank)

variable [Facts]

def fn {F : FTy → Type} [FloatOps F] (main_arg0 : FVec F S2048x512 .f32) (main_arg1 : IVec S2048x4 32) (main_arg2 : IVec S8192x4 32) : IVec S2048x4 1 × IVec S8192x4 1 :=
  let main_c : IVec S_ 32 := constantI S_ 32 0#32
  let main_v0 : IVec S2048x4 32 := broadcastInDim S2048x4 ![] bcast_S_S2048x4 main_c
  let main_v1 : IVec S2048x4 1 := cmpi .sge main_arg1 main_v0
  let main_c_0 : IVec S_ 32 := constantI S_ 32 24#32
  let main_v2 : IVec S2048x4 32 := broadcastInDim S2048x4 ![] bcast_S_S2048x4 main_c_0
  let main_v3 : IVec S2048x4 1 := cmpi .slt main_arg1 main_v2
  let main_v4 : IVec S2048x4 1 := andi main_v1 main_v3
  let main_c_1 : IVec S_ 32 := constantI S_ 32 0#32
  let main_v5 : IVec S8192x4 32 := broadcastInDim S8192x4 ![] bcast_S_S8192x4 main_c_1
  let main_v6 : IVec S8192x4 1 := cmpi .sge main_arg2 main_v5
  let main_c_2 : IVec S_ 32 := constantI S_ 32 192#32
  let main_v7 : IVec S8192x4 32 := broadcastInDim S8192x4 ![] bcast_S_S8192x4 main_c_2
  let main_v8 : IVec S8192x4 1 := cmpi .slt main_arg2 main_v7
  let main_v9 : IVec S8192x4 1 := andi main_v6 main_v8
  (main_v4, main_v9)
-- ==== Kernel.lean ====
abbrev S2048x512 : Shape := ⟨2, ![2048, 512]⟩
abbrev S2048x4 : Shape := ⟨2, ![2048, 4]⟩
abbrev S8192x4 : Shape := ⟨2, ![8192, 4]⟩
abbrev S4x2048 : Shape := ⟨2, ![4, 2048]⟩
abbrev S4x8192 : Shape := ⟨2, ![4, 8192]⟩
abbrev S8192 : Shape := ⟨1, ![8192]⟩
abbrev S8192x512 : Shape := ⟨2, ![8192, 512]⟩
abbrev S16x32 : Shape := ⟨2, ![16, 32]⟩
abbrev S8x512 : Shape := ⟨2, ![8, 512]⟩
abbrev S512x512 : Shape := ⟨2, ![512, 512]⟩
abbrev S2048x1 : Shape := ⟨2, ![2048, 1]⟩
abbrev S4x512 : Shape := ⟨2, ![4, 512]⟩
abbrev S1x512 : Shape := ⟨2, ![1, 512]⟩
abbrev S512 : Shape := ⟨1, ![512]⟩
abbrev S4x1 : Shape := ⟨2, ![4, 1]⟩
abbrev S512x32 : Shape := ⟨2, ![512, 32]⟩
abbrev S1x32 : Shape := ⟨2, ![1, 32]⟩
abbrev S32 : Shape := ⟨1, ![32]⟩
abbrev S16x512 : Shape := ⟨2, ![16, 512]⟩
abbrev S_ : Shape := ⟨0, ![]⟩
abbrev S16 : Shape := ⟨1, ![16]⟩
abbrev S1 : Shape := ⟨1, ![1]⟩
abbrev S16x128 : Shape := ⟨2, ![16, 128]⟩
abbrev S2048x128 : Shape := ⟨2, ![2048, 128]⟩

abbrev nBuf : Table → Nat
  | .hbm => 11
  | .local .tc .vmem => 9
  | .local .scVector .vmem => 3
  | _ => 0

abbrev bufTy : (tb : Table) → Fin (nBuf tb) → BufTy
  | .hbm, ⟨0, _⟩ => ⟨S2048x512, .f32⟩
  | .hbm, ⟨1, _⟩ => ⟨S2048x4, .i32⟩
  | .hbm, ⟨2, _⟩ => ⟨S8192x4, .i32⟩
  | .hbm, ⟨3, _⟩ => ⟨S4x2048, .i32⟩
  | .hbm, ⟨4, _⟩ => ⟨S4x8192, .i32⟩
  | .hbm, ⟨5, _⟩ => ⟨S8192, .i32⟩
  | .hbm, ⟨6, _⟩ => ⟨S4x8192, .f32⟩
  | .hbm, ⟨7, _⟩ => ⟨S8192x512, .f32⟩
  | .hbm, ⟨8, _⟩ => ⟨S16x32, .i32⟩
  | .hbm, ⟨9, _⟩ => ⟨S8192x512, .f32⟩
  | .hbm, ⟨10, _⟩ => ⟨S8192x4, .f32⟩
  | .local .tc .vmem, ⟨0, _⟩ => ⟨S2048x4, .i32⟩
  | .local .tc .vmem, ⟨1, _⟩ => ⟨S4x2048, .i32⟩
  | .local .tc .vmem, ⟨2, _⟩ => ⟨S4x8192, .i32⟩
  | .local .tc .vmem, ⟨3, _⟩ => ⟨S8x512, .f32⟩
  | .local .tc .vmem, ⟨4, _⟩ => ⟨S8192, .i32⟩
  | .local .tc .vmem, ⟨5, _⟩ => ⟨S4x8192, .f32⟩
  | .local .tc .vmem, ⟨6, _⟩ => ⟨S512x512, .f32⟩
  | .local .tc .vmem, ⟨7, _⟩ => ⟨S512x512, .f32⟩
  | .local .tc .vmem, ⟨8, _⟩ => ⟨S16x32, .i32⟩
  | .local .scVector .vmem, ⟨0, _⟩ => ⟨S512, .i32⟩
  | .local .scVector .vmem, ⟨1, _⟩ => ⟨S32, .i32⟩
  | .local .scVector .vmem, ⟨2, _⟩ => ⟨S16x512, .f32⟩
  | _, _ => ⟨S2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_arg0_scv : Ref sig .scVector := ⟨.hbm, 0, rfl⟩
abbrev main_v2_0_scv : Ref sig .scVector := ⟨.hbm, 5, rfl⟩
abbrev main_v2_3_scv : Ref sig .scVector := ⟨.hbm, 8, rfl⟩
abbrev main_v3_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_6 : Index := 0#32
  let arg0 : BitVec 32 := BitVec.ofNat 32 (i 0).val
  let c512_i32 : BitVec 32 := 512#32
  let v13 : BitVec 32 := Scalar.muli arg0 c512_i32
  let v14 : Index := Scalar.indexCast v13
  ![0, v14.toNat]
def k0_off2 (i : grid0.Coords) : Fin 1 → Nat :=
  let arg0 : BitVec 32 := BitVec.ofNat 32 (i 0).val
  let c512_i32_11 : BitVec 32 := 512#32
  let v43 : BitVec 32 := Scalar.muli arg0 c512_i32_11
  let v44 : Index := Scalar.indexCast v43
  ![v44.toNat]
def k0_off3 (i : grid0.Coords) : Fin 2 → Nat :=
  let arg0 : BitVec 32 := BitVec.ofNat 32 (i 0).val
  let v98 : Index := Scalar.indexCast arg0
  let c0_27 : Index := 0#32
  ![v98.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x32 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![1, 16], ![false, false]⟩

def k1_off1 (i : grid1.Coords) : Fin 1 → Nat :=
  let arg1 : BitVec 32 := BitVec.ofNat 32 (i 1).val
  let c512_i32 : BitVec 32 := 512#32
  let v0 : BitVec 32 := Scalar.muli arg1 c512_i32
  ![v0.toNat]
def k1_off2 (i : grid1.Coords) : Fin 2 → Nat :=
  let arg1 : BitVec 32 := BitVec.ofNat 32 (i 1).val
  let c0_i32_63_r1 : BitVec 32 := 0#32
  ![arg1.toNat, 0]
def k1_off3 (i : grid1.Coords) : Fin 2 → Nat :=
  let arg1 : BitVec 32 := BitVec.ofNat 32 (i 1).val
  let c512_i32 : BitVec 32 := 512#32
  let v0 : BitVec 32 := Scalar.muli arg1 c512_i32
  let c0_i32_100 : BitVec 32 := 0#32
  let v189 : BitVec 32 := Scalar.addi v0 c0_i32_100
  let c0_i32_101 : BitVec 32 := 0#32
  ![v189.toNat, 0]
def k1_off4 (i : grid1.Coords) : Fin 2 → Nat :=
  let arg1 : BitVec 32 := BitVec.ofNat 32 (i 1).val
  let c512_i32 : BitVec 32 := 512#32
  let v0 : BitVec 32 := Scalar.muli arg1 c512_i32
  let c16_i32_99 : BitVec 32 := 16#32
  let v189 : BitVec 32 := Scalar.addi v0 c16_i32_99
  let c0_i32_100 : BitVec 32 := 0#32
  ![v189.toNat, 0]
def k1_off5 (i : grid1.Coords) : Fin 2 → Nat :=
  let arg1 : BitVec 32 := BitVec.ofNat 32 (i 1).val
  let c512_i32 : BitVec 32 := 512#32
  let v0 : BitVec 32 := Scalar.muli arg1 c512_i32
  let c32_i32_99 : BitVec 32 := 32#32
  let v189 : BitVec 32 := Scalar.addi v0 c32_i32_99
  let c0_i32_100 : BitVec 32 := 0#32
  ![v189.toNat, 0]
def k1_off6 (i : grid1.Coords) : Fin 2 → Nat :=
  let arg1 : BitVec 32 := BitVec.ofNat 32 (i 1).val
  let c512_i32 : BitVec 32 := 512#32
  let v0 : BitVec 32 := Scalar.muli arg1 c512_i32
  let c48_i32_99 : BitVec 32 := 48#32
  let v189 : BitVec 32 := Scalar.addi v0 c48_i32_99
  let c0_i32_100 : BitVec 32 := 0#32
  ![v189.toNat, 0]
def k1_off7 (i : grid1.Coords) : Fin 2 → Nat :=
  let arg1 : BitVec 32 := BitVec.ofNat 32 (i 1).val
  let c512_i32 : BitVec 32 := 512#32
  let v0 : BitVec 32 := Scalar.muli arg1 c512_i32
  let c64_i32_99 : BitVec 32 := 64#32
  let v189 : BitVec 32 := Scalar.addi v0 c64_i32_99
  let c0_i32_100 : BitVec 32 := 0#32
  ![v189.toNat, 0]
def k1_off8 (i : grid1.Coords) : Fin 2 → Nat :=
  let arg1 : BitVec 32 := BitVec.ofNat 32 (i 1).val
  let c512_i32 : BitVec 32 := 512#32
  let v0 : BitVec 32 := Scalar.muli arg1 c512_i32
  let c80_i32_99 : BitVec 32 := 80#32
  let v189 : BitVec 32 := Scalar.addi v0 c80_i32_99
  let c0_i32_100 : BitVec 32 := 0#32
  ![v189.toNat, 0]
def k1_off9 (i : grid1.Coords) : Fin 2 → Nat :=
  let arg1 : BitVec 32 := BitVec.ofNat 32 (i 1).val
  let c512_i32 : BitVec 32 := 512#32
  let v0 : BitVec 32 := Scalar.muli arg1 c512_i32
  let c96_i32_99 : BitVec 32 := 96#32
  let v189 : BitVec 32 := Scalar.addi v0 c96_i32_99
  let c0_i32_100 : BitVec 32 := 0#32
  ![v189.toNat, 0]
def k1_off10 (i : grid1.Coords) : Fin 2 → Nat :=
  let arg1 : BitVec 32 := BitVec.ofNat 32 (i 1).val
  let c512_i32 : BitVec 32 := 512#32
  let v0 : BitVec 32 := Scalar.muli arg1 c512_i32
  let c112_i32_99 : BitVec 32 := 112#32
  let v189 : BitVec 32 := Scalar.addi v0 c112_i32_99
  let c0_i32_100 : BitVec 32 := 0#32
  ![v189.toNat, 0]
def k1_off11 (i : grid1.Coords) : Fin 2 → Nat :=
  let arg1 : BitVec 32 := BitVec.ofNat 32 (i 1).val
  let c512_i32 : BitVec 32 := 512#32
  let v0 : BitVec 32 := Scalar.muli arg1 c512_i32
  let c128_i32_100 : BitVec 32 := 128#32
  let v189 : BitVec 32 := Scalar.addi v0 c128_i32_100
  let c0_i32_101 : BitVec 32 := 0#32
  ![v189.toNat, 0]
def k1_off12 (i : grid1.Coords) : Fin 2 → Nat :=
  let arg1 : BitVec 32 := BitVec.ofNat 32 (i 1).val
  let c512_i32 : BitVec 32 := 512#32
  let v0 : BitVec 32 := Scalar.muli arg1 c512_i32
  let c144_i32_99 : BitVec 32 := 144#32
  let v189 : BitVec 32 := Scalar.addi v0 c144_i32_99
  let c0_i32_100 : BitVec 32 := 0#32
  ![v189.toNat, 0]
def k1_off13 (i : grid1.Coords) : Fin 2 → Nat :=
  let arg1 : BitVec 32 := BitVec.ofNat 32 (i 1).val
  let c512_i32 : BitVec 32 := 512#32
  let v0 : BitVec 32 := Scalar.muli arg1 c512_i32
  let c160_i32_99 : BitVec 32 := 160#32
  let v189 : BitVec 32 := Scalar.addi v0 c160_i32_99
  let c0_i32_100 : BitVec 32 := 0#32
  ![v189.toNat, 0]
def k1_off14 (i : grid1.Coords) : Fin 2 → Nat :=
  let arg1 : BitVec 32 := BitVec.ofNat 32 (i 1).val
  let c512_i32 : BitVec 32 := 512#32
  let v0 : BitVec 32 := Scalar.muli arg1 c512_i32
  let c176_i32_99 : BitVec 32 := 176#32
  let v189 : BitVec 32 := Scalar.addi v0 c176_i32_99
  let c0_i32_100 : BitVec 32 := 0#32
  ![v189.toNat, 0]
def k1_off15 (i : grid1.Coords) : Fin 2 → Nat :=
  let arg1 : BitVec 32 := BitVec.ofNat 32 (i 1).val
  let c512_i32 : BitVec 32 := 512#32
  let v0 : BitVec 32 := Scalar.muli arg1 c512_i32
  let c192_i32_99 : BitVec 32 := 192#32
  let v189 : BitVec 32 := Scalar.addi v0 c192_i32_99
  let c0_i32_100 : BitVec 32 := 0#32
  ![v189.toNat, 0]
def k1_off16 (i : grid1.Coords) : Fin 2 → Nat :=
  let arg1 : BitVec 32 := BitVec.ofNat 32 (i 1).val
  let c512_i32 : BitVec 32 := 512#32
  let v0 : BitVec 32 := Scalar.muli arg1 c512_i32
  let c208_i32_99 : BitVec 32 := 208#32
  let v189 : BitVec 32 := Scalar.addi v0 c208_i32_99
  let c0_i32_100 : BitVec 32 := 0#32
  ![v189.toNat, 0]
def k1_off17 (i : grid1.Coords) : Fin 2 → Nat :=
  let arg1 : BitVec 32 := BitVec.ofNat 32 (i 1).val
  let c512_i32 : BitVec 32 := 512#32
  let v0 : BitVec 32 := Scalar.muli arg1 c512_i32
  let c224_i32_99 : BitVec 32 := 224#32
  let v189 : BitVec 32 := Scalar.addi v0 c224_i32_99
  let c0_i32_100 : BitVec 32 := 0#32
  ![v189.toNat, 0]
def k1_off18 (i : grid1.Coords) : Fin 2 → Nat :=
  let arg1 : BitVec 32 := BitVec.ofNat 32 (i 1).val
  let c512_i32 : BitVec 32 := 512#32
  let v0 : BitVec 32 := Scalar.muli arg1 c512_i32
  let c240_i32_99 : BitVec 32 := 240#32
  let v189 : BitVec 32 := Scalar.addi v0 c240_i32_99
  let c0_i32_100 : BitVec 32 := 0#32
  ![v189.toNat, 0]
def k1_off19 (i : grid1.Coords) : Fin 2 → Nat :=
  let arg1 : BitVec 32 := BitVec.ofNat 32 (i 1).val
  let c512_i32 : BitVec 32 := 512#32
  let v0 : BitVec 32 := Scalar.muli arg1 c512_i32
  let c256_i32_100 : BitVec 32 := 256#32
  let v189 : BitVec 32 := Scalar.addi v0 c256_i32_100
  let c0_i32_101 : BitVec 32 := 0#32
  ![v189.toNat, 0]
def k1_off20 (i : grid1.Coords) : Fin 2 → Nat :=
  let arg1 : BitVec 32 := BitVec.ofNat 32 (i 1).val
  let c512_i32 : BitVec 32 := 512#32
  let v0 : BitVec 32 := Scalar.muli arg1 c512_i32
  let c272_i32_99 : BitVec 32 := 272#32
  let v189 : BitVec 32 := Scalar.addi v0 c272_i32_99
  let c0_i32_100 : BitVec 32 := 0#32
  ![v189.toNat, 0]
def k1_off21 (i : grid1.Coords) : Fin 2 → Nat :=
  let arg1 : BitVec 32 := BitVec.ofNat 32 (i 1).val
  let c512_i32 : BitVec 32 := 512#32
  let v0 : BitVec 32 := Scalar.muli arg1 c512_i32
  let c288_i32_99 : BitVec 32 := 288#32
  let v189 : BitVec 32 := Scalar.addi v0 c288_i32_99
  let c0_i32_100 : BitVec 32 := 0#32
  ![v189.toNat, 0]
def k1_off22 (i : grid1.Coords) : Fin 2 → Nat :=
  let arg1 : BitVec 32 := BitVec.ofNat 32 (i 1).val
  let c512_i32 : BitVec 32 := 512#32
  let v0 : BitVec 32 := Scalar.muli arg1 c512_i32
  let c304_i32_99 : BitVec 32 := 304#32
  let v189 : BitVec 32 := Scalar.addi v0 c304_i32_99
  let c0_i32_100 : BitVec 32 := 0#32
  ![v189.toNat, 0]
def k1_off23 (i : grid1.Coords) : Fin 2 → Nat :=
  let arg1 : BitVec 32 := BitVec.ofNat 32 (i 1).val
  let c512_i32 : BitVec 32 := 512#32
  let v0 : BitVec 32 := Scalar.muli arg1 c512_i32
  let c320_i32_99 : BitVec 32 := 320#32
  let v189 : BitVec 32 := Scalar.addi v0 c320_i32_99
  let c0_i32_100 : BitVec 32 := 0#32
  ![v189.toNat, 0]
def k1_off24 (i : grid1.Coords) : Fin 2 → Nat :=
  let arg1 : BitVec 32 := BitVec.ofNat 32 (i 1).val
  let c512_i32 : BitVec 32 := 512#32
  let v0 : BitVec 32 := Scalar.muli arg1 c512_i32
  let c336_i32_99 : BitVec 32 := 336#32
  let v189 : BitVec 32 := Scalar.addi v0 c336_i32_99
  let c0_i32_100 : BitVec 32 := 0#32
  ![v189.toNat, 0]
def k1_off25 (i : grid1.Coords) : Fin 2 → Nat :=
  let arg1 : BitVec 32 := BitVec.ofNat 32 (i 1).val
  let c512_i32 : BitVec 32 := 512#32
  let v0 : BitVec 32 := Scalar.muli arg1 c512_i32
  let c352_i32_99 : BitVec 32 := 352#32
  let v189 : BitVec 32 := Scalar.addi v0 c352_i32_99
  let c0_i32_100 : BitVec 32 := 0#32
  ![v189.toNat, 0]
def k1_off26 (i : grid1.Coords) : Fin 2 → Nat :=
  let arg1 : BitVec 32 := BitVec.ofNat 32 (i 1).val
  let c512_i32 : BitVec 32 := 512#32
  let v0 : BitVec 32 := Scalar.muli arg1 c512_i32
  let c368_i32_99 : BitVec 32 := 368#32
  let v189 : BitVec 32 := Scalar.addi v0 c368_i32_99
  let c0_i32_100 : BitVec 32 := 0#32
  ![v189.toNat, 0]
def k1_off27 (i : grid1.Coords) : Fin 2 → Nat :=
  let arg1 : BitVec 32 := BitVec.ofNat 32 (i 1).val
  let c512_i32 : BitVec 32 := 512#32
  let v0 : BitVec 32 := Scalar.muli arg1 c512_i32
  let c384_i32_100 : BitVec 32 := 384#32
  let v189 : BitVec 32 := Scalar.addi v0 c384_i32_100
  let c0_i32_101 : BitVec 32 := 0#32
  ![v189.toNat, 0]
def k1_off28 (i : grid1.Coords) : Fin 2 → Nat :=
  let arg1 : BitVec 32 := BitVec.ofNat 32 (i 1).val
  let c512_i32 : BitVec 32 := 512#32
  let v0 : BitVec 32 := Scalar.muli arg1 c512_i32
  let c400_i32_99 : BitVec 32 := 400#32
  let v189 : BitVec 32 := Scalar.addi v0 c400_i32_99
  let c0_i32_100 : BitVec 32 := 0#32
  ![v189.toNat, 0]
def k1_off29 (i : grid1.Coords) : Fin 2 → Nat :=
  let arg1 : BitVec 32 := BitVec.ofNat 32 (i 1).val
  let c512_i32 : BitVec 32 := 512#32
  let v0 : BitVec 32 := Scalar.muli arg1 c512_i32
  let c416_i32_99 : BitVec 32 := 416#32
  let v189 : BitVec 32 := Scalar.addi v0 c416_i32_99
  let c0_i32_100 : BitVec 32 := 0#32
  ![v189.toNat, 0]
def k1_off30 (i : grid1.Coords) : Fin 2 → Nat :=
  let arg1 : BitVec 32 := BitVec.ofNat 32 (i 1).val
  let c512_i32 : BitVec 32 := 512#32
  let v0 : BitVec 32 := Scalar.muli arg1 c512_i32
  let c432_i32_99 : BitVec 32 := 432#32
  let v189 : BitVec 32 := Scalar.addi v0 c432_i32_99
  let c0_i32_100 : BitVec 32 := 0#32
  ![v189.toNat, 0]
def k1_off31 (i : grid1.Coords) : Fin 2 → Nat :=
  let arg1 : BitVec 32 := BitVec.ofNat 32 (i 1).val
  let c512_i32 : BitVec 32 := 512#32
  let v0 : BitVec 32 := Scalar.muli arg1 c512_i32
  let c448_i32_99 : BitVec 32 := 448#32
  let v189 : BitVec 32 := Scalar.addi v0 c448_i32_99
  let c0_i32_100 : BitVec 32 := 0#32
  ![v189.toNat, 0]
def k1_off32 (i : grid1.Coords) : Fin 2 → Nat :=
  let arg1 : BitVec 32 := BitVec.ofNat 32 (i 1).val
  let c512_i32 : BitVec 32 := 512#32
  let v0 : BitVec 32 := Scalar.muli arg1 c512_i32
  let c464_i32_99 : BitVec 32 := 464#32
  let v189 : BitVec 32 := Scalar.addi v0 c464_i32_99
  let c0_i32_100 : BitVec 32 := 0#32
  ![v189.toNat, 0]
def k1_off33 (i : grid1.Coords) : Fin 2 → Nat :=
  let arg1 : BitVec 32 := BitVec.ofNat 32 (i 1).val
  let c512_i32 : BitVec 32 := 512#32
  let v0 : BitVec 32 := Scalar.muli arg1 c512_i32
  let c480_i32_99 : BitVec 32 := 480#32
  let v189 : BitVec 32 := Scalar.addi v0 c480_i32_99
  let c0_i32_100 : BitVec 32 := 0#32
  ![v189.toNat, 0]
def k1_off34 (i : grid1.Coords) : Fin 2 → Nat :=
  let arg1 : BitVec 32 := BitVec.ofNat 32 (i 1).val
  let c512_i32 : BitVec 32 := 512#32
  let v0 : BitVec 32 := Scalar.muli arg1 c512_i32
  let c496_i32_99 : BitVec 32 := 496#32
  let v189 : BitVec 32 := Scalar.addi v0 c496_i32_99
  let c0_i32_100 : BitVec 32 := 0#32
  ![v189.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x512 : Shape := ⟨2, ![2048, 512]⟩
abbrev S2048x4 : Shape := ⟨2, ![2048, 4]⟩
abbrev S8192x4 : Shape := ⟨2, ![8192, 4]⟩
abbrev S_ : Shape := ⟨0, ![]⟩
abbrev S2048x1x4 : Shape := ⟨3, ![2048, 1, 4]⟩
abbrev S1x8192x4 : Shape := ⟨3, ![1, 8192, 4]⟩
abbrev S2048x8192x4 : Shape := ⟨3, ![2048, 8192, 4]⟩
abbrev S2048x8192 : Shape := ⟨2, ![2048, 8192]⟩
abbrev S8192x2048 : Shape := ⟨2, ![8192, 2048]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S8192x512 : Shape := ⟨2, ![8192, 512]⟩

abbrev nBuf : Space → Nat
  | .hbm => 76
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4, .i32⟩
  | .hbm, ⟨2, _⟩ => ⟨S8192x4, .i32⟩
  | .hbm, ⟨3, _⟩ => ⟨S2048x4, .f32⟩
  | .hbm, ⟨4, _⟩ => ⟨S8192x4, .f32⟩
  | .hbm, ⟨5, _⟩ => ⟨S_, .f32⟩
  | .hbm, ⟨6, _⟩ => ⟨S2048x4, .f32⟩
  | .hbm, ⟨7, _⟩ => ⟨S2048x4, .f32⟩
  | .hbm, ⟨8, _⟩ => ⟨S2048x1x4, .f32⟩
  | .hbm, ⟨9, _⟩ => ⟨S1x8192x4, .f32⟩
  | .hbm, ⟨10, _⟩ => ⟨S2048x8192x4, .f32⟩
  | .hbm, ⟨11, _⟩ => ⟨S2048x8192x4, .f32⟩
  | .hbm, ⟨12, _⟩ => ⟨S2048x8192x4, .i1⟩
  | .hbm, ⟨13, _⟩ => ⟨S_, .i1⟩
  | .hbm, ⟨14, _⟩ => ⟨S2048x8192, .i1⟩
  | .hbm, ⟨15, _⟩ => ⟨S_, .f32⟩
  | .hbm, ⟨16, _⟩ => ⟨S2048x1x4, .f32⟩
  | .hbm, ⟨17, _⟩ => ⟨S2048x1x4, .f32⟩
  | .hbm, ⟨18, _⟩ => ⟨S2048x8192x4, .f32⟩
  | .hbm, ⟨19, _⟩ => ⟨S2048x8192x4, .f32⟩
  | .hbm, ⟨20, _⟩ => ⟨S2048x8192x4, .i1⟩
  | .hbm, ⟨21, _⟩ => ⟨S_, .i1⟩
  | .hbm, ⟨22, _⟩ => ⟨S2048x8192, .i1⟩
  | .hbm, ⟨23, _⟩ => ⟨S2048x8192, .i1⟩
  | .hbm, ⟨24, _⟩ => ⟨S8192x2048, .i1⟩
  | .hbm, ⟨25, _⟩ => ⟨S8192x2048, .i32⟩
  | .hbm, ⟨26, _⟩ => ⟨S_, .i1⟩
  | .hbm, ⟨27, _⟩ => ⟨S_, .i32⟩
  | .hbm, ⟨28, _⟩ => ⟨S8192, .i1⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S8192x512, .f32⟩
  | .hbm, ⟨49, _⟩ => ⟨S8192x512, .i1⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S1, .i32⟩
  | .hbm, ⟨62, _⟩ => ⟨S_, .i32⟩
  | .hbm, ⟨63, _⟩ => ⟨S8192x1, .i32⟩
  | .hbm, ⟨64, _⟩ => ⟨S8192x1, .i1⟩
  | .hbm, ⟨65, _⟩ => ⟨S1x1, .i32⟩
  | .hbm, ⟨66, _⟩ => ⟨S8192x1, .i32⟩
  | .hbm, ⟨67, _⟩ => ⟨S8192x1, .i1⟩
  | .hbm, ⟨68, _⟩ => ⟨S8192x1, .i1⟩
  | .hbm, ⟨69, _⟩ => ⟨S_, .i1⟩
  | .hbm, ⟨70, _⟩ => ⟨S8192, .i1⟩
  | .hbm, ⟨71, _⟩ => ⟨S8192x4, .f32⟩
  | .hbm, ⟨72, _⟩ => ⟨S8192x4, .i1⟩
  | .hbm, ⟨73, _⟩ => ⟨S_, .f32⟩
  | .hbm, ⟨74, _⟩ => ⟨S8192x4, .f32⟩
  | .hbm, ⟨75, _⟩ => ⟨S8192x4, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_c_0 : Ref sig .tc := ⟨.hbm, 27, rfl⟩
abbrev main_call0_v1_0 : Ref sig .tc := ⟨.hbm, 28, rfl⟩
abbrev main_v18 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v19 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v20 : Ref sig .tc := ⟨.hbm, 75, rfl⟩

abbrev nD : Nat := 1
abbrev τ : Topo := Topo.v7x

variable {F : FTy → Type} [FloatOps F]
-- ==== Proof.Common.lean ====
/-
  The kernel's program as the launch theorems see it: its SparseCore configuration, its body tables and
  variants, the resource algebra, and the names of its buffers.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionsLoop
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the TensorCore pipeline and the kernels below the SparseCore call. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The call runs on 16 tiles. -/
theorem nSub_zero : (K (F := F)).nSub 0 = 16 := rfl
/-- The body table below the SparseCore call. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The resources of the whole program, over contents at the value instance `F`. -/
abbrev MM (F : FTy → Type) : Type := MT nD τ sig (HIx 1) (Elt F) ℕ UU ℕ

local notation "𝕄" => MM F

abbrev EH : Emb UH (MM F) := embL
abbrev EP : Emb UP (MM F) := (Emb.inl : Emb UP (UP × Counters)).trans embR

end Cert.Proof

end
-- ==== Proof.ScProg.lean ====
/-
  The SparseCore task written as loops over its 32 groups of 16 rows, and the printed task equal to it. The printed
  text spells every group out, with its offsets as literals; here one group's program takes the group's number.
-/
module

public import proofs.«01_k».proof.Proof.Common

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type} [FloatOps F]

/-! ## The buffers of the task -/

/-- The feature table. -/
abbrev xM : Memref sig .scVector .hbm S2048x512 .f32 := Memref.whole main_arg0_scv
/-- The selected rows. -/
abbrev selM : Memref sig .scVector .hbm S8192 .i32 := Memref.whole main_v2_0_scv
/-- The groups' flags. -/
abbrev flagM : Memref sig .scVector .hbm S16x32 .i32 := Memref.whole main_v2_3_scv
/-- The gathered features. -/
abbrev outM : Memref sig .scVector .hbm S8192x512 .f32 := Memref.whole main_v3_scv
/-- The task's 512 selected rows. -/
abbrev idxM : Memref sig .scVector .vmem S512 .i32 := Memref.whole cc1_scratch0
/-- The task's 32 flags. -/
abbrev flgM : Memref sig .scVector .vmem S32 .i32 := Memref.whole cc1_scratch1
/-- The rows of one group. -/
abbrev gM : Memref sig .scVector .vmem S16x512 .f32 := Memref.whole cc1_scratch2

/-- The vector subcore the task at `i` runs on. -/
abbrev cV (i : grid1.Coords) : Fin τ.nSC := (i 0).castLE hcore1
abbrev jV (i : grid1.Coords) : Fin τ.nSub := (i 1).castLE hsub1
abbrev pV (i : grid1.Coords) : Proc τ := .scVector (cV i) (jV i)

/-! ## The offsets -/

/-- Where group `g`'s rows of the output start, as the task computes it. -/
def grpOff (i : grid1.Coords) (g : ℕ) : Fin 2 → ℕ :=
  ![(Scalar.addi (Scalar.muli (BitVec.ofNat 32 (i 1).val) 512#32) (BitVec.ofNat 32 (16 * g))).toNat, 0]

/-- There are 16 tiles. -/
theorem lt16 (i : grid1.Coords) : (i 1).val < 16 := (i 1).isLt

/-- Where a group's rows of the result begin. -/
theorem grpOff_eq (i : grid1.Coords) {g : ℕ} (hg : g < 32) : grpOff i g = ![512 * (i 1).val + 16 * g, 0] := by
  have h := lt16 i
  have e : (Scalar.addi (Scalar.muli (BitVec.ofNat 32 (i 1).val) 512#32) (BitVec.ofNat 32 (16 * g))).toNat
      = 512 * (i 1).val + 16 * g := by
    simp only [Scalar.addi, Scalar.muli, IntOp.addi, IntOp.muli, BitVec.toNat_add, BitVec.toNat_mul, BitVec.toNat_ofNat]
    omega
  funext a
  match a with
  | 0 => exact e
  | 1 => rfl

/-- A group's rows lie in the result. -/
theorem grpOff_inb (i : grid1.Coords) {g : ℕ} (hg : g < 32) : ∀ a, grpOff i g a + S16x512.size a ≤ S8192x512.size a := by
  have h := lt16 i
  rw [grpOff_eq i hg]
  intro a
  match a with
  | 0 => show 512 * (i 1).val + 16 * g + 16 ≤ 8192; omega
  | 1 => show 0 + 512 ≤ 512; omega

/-- A group's words lie in the list. -/
theorem listOff_inb {g : ℕ} (hg : g < 32) : ∀ a, (![16 * g] : Fin 1 → ℕ) a + S16.size a ≤ S512.size a := by
  intro a
  match a with
  | 0 => show 16 * g + 16 ≤ 512; omega

/-- A column slab lies in the features. -/
theorem xSlab_inb {k : ℕ} (hk : k < 4) : ∀ a, (![0, 128 * k] : Fin 2 → ℕ) a + S2048x128.size a ≤ S2048x512.size a := by
  intro a
  match a with
  | 0 => show 0 + 2048 ≤ 2048; omega
  | 1 => show 128 * k + 128 ≤ 512; omega

/-- A column slab lies in the staging buffer. -/
theorem gSlab_inb {k : ℕ} (hk : k < 4) : ∀ a, (![0, 128 * k] : Fin 2 → ℕ) a + S16x128.size a ≤ S16x512.size a := by
  intro a
  match a with
  | 0 => show 0 + 16 ≤ 16; omega
  | 1 => show 128 * k + 128 ≤ 512; omega

/-- Each lane of 16 is a slice of the vector. -/
theorem lane_slices (t : Fin 16) : S16.Slices ![t.val] S1 := by revert t; decide

/-! ## The windows -/

/-- Columns `128 k` to `128 k + 128` of the table. -/
abbrev xSlab (k : ℕ) (hk : k < 4) : Memref sig .scVector .hbm S2048x128 .f32 :=
  xM.slice (Rect.unit (s := S2048x512) ![0, 128 * k] S2048x128.size (xSlab_inb hk)) (fun _ => rfl)
/-- The same columns of the group's rows. -/
abbrev gSlab (k : ℕ) (hk : k < 4) : Memref sig .scVector .vmem S16x128 .f32 :=
  gM.slice (Rect.unit (s := S16x512) ![0, 128 * k] S16x128.size (gSlab_inb hk)) (fun _ => rfl)
/-- Group `g`'s 16 selected rows. -/
abbrev listM (g : ℕ) (hg : g < 32) : Memref sig .scVector .vmem S16 .i32 :=
  idxM.slice (Rect.unit (s := S512) ![16 * g] S16.size (listOff_inb hg)) (fun _ => rfl)
/-- Group `g`'s rows of the output. -/
abbrev outG (i : grid1.Coords) (g : ℕ) (hg : g < 32) : Memref sig .scVector .hbm S16x512 .f32 :=
  outM.slice (Rect.unit (s := S8192x512) (grpOff i g) S16x512.size (grpOff_inb i hg)) (fun _ => rfl)
/-- The task's 512 entries of the selected rows. -/
abbrev selT (i : grid1.Coords) : Memref sig .scVector .hbm S512 .i32 :=
  selM.slice (Rect.unit (s := S8192) (k1_off1 i) S512.size (k1_off1_inb i)) (fun _ => rfl)
/-- The task's row of the flags. -/
abbrev flagT (i : grid1.Coords) : Memref sig .scVector .hbm S32 .i32 :=
  (flagM.slice (Rect.unit (s := S16x32) (k1_off2 i) S1x32.size (k1_off2_inb i)) (fun _ => rfl)).squeeze S32 squeezes_S1x32_S32

/-! ## The programs -/

abbrev SProg (i : grid1.Coords) (α : Type) : Type 1 := Prog (TpuEff nD τ sig (Elt F) Λ₀ (pV i)) α

/-- Gather one slab of columns of a group's rows, and wait for it. -/
def slabP (i : grid1.Coords) (g : ℕ) (hg : g < 32) (k : ℕ) (hk : k < 4) : SProg (F := F) i PUnit := do
  SparseCore.enqueueIndirectGather rfl (xSlab k hk) (gSlab k hk) gathers_S2048x128_S16x128 (listM g hg) rfl cc1_scratch3.sem
    (View.wordExact_bits rfl) rfl (Or.inl rfl)
  SparseCore.waitIndirectGather cc1_scratch3.sem (xSlab k hk) (gSlab k hk) (View.wordExact_bits rfl) (View.wordExact_bits rfl)

/-- Copy the group's rows out, and wait for it. -/
def putP (i : grid1.Coords) (g : ℕ) (hg : g < 32) : SProg (F := F) i PUnit := do
  Prog.lift (.enqueueDma gM (.here (outG i g hg)) (.dma cc1_scratch4.sem) (Memref.isWhole_whole _).wordExact
    (View.wordExact_bits rfl) ⟨Or.inl rfl, trivial⟩)
  Prog.lift (.waitDma2 cc1_scratch4.sem gM (outG i g hg) (Memref.isWhole_whole _).wordExact (View.wordExact_bits rfl))

/-- Gather a group's rows, slab by slab, and copy them out. -/
def groupP (i : grid1.Coords) (g : ℕ) (hg : g < 32) : SProg (F := F) i PUnit := do
  slabP i g hg 0 (by decide)
  slabP i g hg 1 (by decide)
  slabP i g hg 2 (by decide)
  slabP i g hg 3 (by decide)
  putP i g hg

/-- Flag `t` of a vector of 16 flags. -/
def laneV (v : IVec S16 32) (t : Fin 16) : BitVec 32 := extractAt ![0] (extractStridedSlice S1 ![t.val] v (lane_slices t)) inpos_S1_p0

/-- Whether a flag is positive, as a word. -/
abbrev posW (b : BitVec 32) : BitVec 32 := Scalar.extui (Scalar.cmpi .sgt b 0#32)

/-- The group's program if the word `c` is not the word `z`, then `k`. -/
def gateP {α : Type} (i : grid1.Coords) (g : ℕ) (hg : g < 32) (c z : BitVec 32) (k : SProg (F := F) i α) : SProg (F := F) i α :=
  if Scalar.cmpi .ne c z = 1#1 then groupP i g hg >>= fun _ => k else k

/-- There are 32 groups. -/
theorem grp_lt {h : ℕ} (hh : h < 2) (t : Fin 16) : 16 * h + t.val < 32 := by have := t.isLt; omega

/-- The groups `16 h + t` for `t` down a list, each under its flag, then `k`. -/
def groupsP {α : Type} (i : grid1.Coords) (h : ℕ) (hh : h < 2) (v : IVec S16 32) (k : SProg (F := F) i α) :
    List (Fin 16) → SProg (F := F) i α
  | [] => k
  | t :: ts => gateP i (16 * h + t.val) (grp_lt hh t) (posW (laneV v t)) 0#32 (groupsP i h hh v k ts)

/-- Fetch the task's selected rows and its flags. -/
def fetchP (i : grid1.Coords) : SProg (F := F) i PUnit := do
  Prog.lift (.enqueueDma (selT i) (.here idxM) (.dma cc1_scoped0.sem) (View.wordExact_bits rfl) (Memref.isWhole_whole _).wordExact
    ⟨Or.inl rfl, trivial⟩)
  Prog.lift (.waitDma2 cc1_scoped0.sem (selT i) idxM (View.wordExact_bits rfl) (Memref.isWhole_whole _).wordExact)
  Prog.lift (.enqueueDma (flagT i) (.here flgM) (.dma cc1_scoped1.sem) ((View.wordExact_bits rfl).reshape _ _)
    (Memref.isWhole_whole _).wordExact ⟨Or.inl rfl, trivial⟩)
  Prog.lift (.waitDma2 cc1_scoped1.sem (flagT i) flgM ((View.wordExact_bits rfl).reshape _ _) (Memref.isWhole_whole _).wordExact)

/-- Load the flags of the first half. -/
def loadP0 (i : grid1.Coords) : SProg (F := F) i (Vec F S16 .i32) :=
  Prog.lift (.load flgM (Rect.unit (s := S32) ![0] S16.size inb_S32_S16_0).toLoadRect (View.loadsAt_vmem h_S16))
/-- Load the flags of the second half. -/
def loadP1 (i : grid1.Coords) : SProg (F := F) i (Vec F S16 .i32) :=
  Prog.lift (.load flgM (Rect.unit (s := S32) ![16] S16.size inb_S32_S16_16).toLoadRect (View.loadsAt_vmem h_S16))

/-- The task: fetch the selected rows and the flags, then the two halves. -/
def taskP (i : grid1.Coords) : SProg (F := F) i PUnit := do
  fetchP i
  let v1 ← loadP0 i
  groupsP i 0 (by decide) (shapeCast S16 v1 shapeCasts_S16_S16) (do
    let v83 ← loadP1 i
    groupsP i 1 (by decide) (shapeCast S16 v83 shapeCasts_S16_S16) (pure ⟨⟩) [0, 1, 2, 3, 4, 5, 6, 7, 8, 9, 10, 11, 12, 13, 14, 15])
    [0, 1, 2, 3, 4, 5, 6, 7, 8, 9, 10, 11, 12, 13, 14, 15]

/-! ## The printed task is this one

  The printed text is cut into five parts, each ending in the middle of a half: each part is a run of groups, and a run
  followed by a run is one run. -/

/-- A gate and what follows it. -/
theorem gateP_bind {α β : Type} (i : grid1.Coords) (g : ℕ) (hg : g < 32) (c z : BitVec 32) (k : SProg (F := F) i α)
    (f : α → SProg (F := F) i β) : gateP i g hg c z k >>= f = gateP i g hg c z (k >>= f) := by
  unfold gateP
  split
  · exact bind_assoc _ _ _
  · rfl

/-- Sixteen groups and what follows them. -/
theorem groupsP_bind {α β : Type} (i : grid1.Coords) (h : ℕ) (hh : h < 2) (v : IVec S16 32) (k : SProg (F := F) i α)
    (f : α → SProg (F := F) i β) : ∀ ts, groupsP i h hh v k ts >>= f = groupsP i h hh v (k >>= f) ts
  | [] => rfl
  | t :: ts => by
    show gateP i _ _ _ _ _ >>= f = gateP i _ _ _ _ _
    rw [gateP_bind, groupsP_bind i h hh v k f ts]

abbrev PartA : Type := Σ' (_ : BitVec 32) (_ : IVec S16 32), IVec S1 32
abbrev PartC : Type := Σ' (_ : IVec S16 32) (_ : BitVec 32), BitVec 32

/-- Printed part 1: copies in, and groups 0 to 3. -/
def part1 (i : grid1.Coords) : SProg (F := F) i PartA := do
  fetchP i
  let v1 ← loadP0 i
  groupsP i 0 (by decide) (shapeCast S16 v1 shapeCasts_S16_S16)
    (pure ⟨Scalar.muli (BitVec.ofNat 32 (i 1).val) 512#32, shapeCast S16 v1 shapeCasts_S16_S16,
      extractStridedSlice S1 ![4] (shapeCast S16 v1 shapeCasts_S16_S16) slices_S16_o4_S1⟩) [0, 1, 2, 3]
/-- Printed part 2: groups 4 to 10. -/
def part2 (i : grid1.Coords) (v2 : IVec S16 32) (w : IVec S1 32) : SProg (F := F) i (BitVec 32) :=
  gateP i 4 (by decide) (posW (extractAt ![0] w inpos_S1_p0)) 0#32
    (groupsP i 0 (by decide) v2 (pure (posW (laneV v2 11))) [5, 6, 7, 8, 9, 10])
/-- Printed part 3: groups 11 to 17. -/
def part3 (i : grid1.Coords) (v2 : IVec S16 32) (c : BitVec 32) : SProg (F := F) i PartC :=
  gateP i 11 (by decide) c 0#32 (groupsP i 0 (by decide) v2 (do
    let v83 ← loadP1 i
    groupsP i 1 (by decide) (shapeCast S16 v83 shapeCasts_S16_S16)
      (pure ⟨shapeCast S16 v83 shapeCasts_S16_S16, posW (laneV (shapeCast S16 v83 shapeCasts_S16_S16) 2), 0#32⟩) [0, 1])
    [12, 13, 14, 15])
/-- Printed part 4: groups 18 to 25. -/
def part4 (i : grid1.Coords) (v84 : IVec S16 32) (c z : BitVec 32) : SProg (F := F) i (BitVec 32) :=
  gateP i 18 (by decide) c z (groupsP i 1 (by decide) v84 (pure (laneV v84 10)) [3, 4, 5, 6, 7, 8, 9])
/-- Printed part 5: groups 26 to 31. -/
def part5 (i : grid1.Coords) (v84 : IVec S16 32) (b : BitVec 32) : SProg (F := F) i PUnit :=
  gateP i 26 (by decide) (posW b) 0#32 (groupsP i 1 (by decide) v84 (pure ⟨⟩) [11, 12, 13, 14, 15])

/-- The first printed part: the copies in and the first flags. -/
theorem k1_part33_eq (i : grid1.Coords) :
    k1_part33 (F := F) i xM (Memref.isWhole_whole _) selM (Memref.isWhole_whole _) flagM (Memref.isWhole_whole _) outM (Memref.isWhole_whole _)
      outM (Memref.isWhole_whole _) idxM (Memref.isWhole_whole _) flgM (Memref.isWhole_whole _) gM (Memref.isWhole_whole _)
      cc1_scratch3 cc1_scratch4 cc1_scoped0 cc1_scoped1 = part1 i := rfl
/-- The second printed part, as gates. -/
theorem k1_part34_eq (i : grid1.Coords) (v0 : BitVec 32) (v2 : IVec S16 32) (w : IVec S1 32) :
    k1_part34 (F := F) i xM (Memref.isWhole_whole _) selM (Memref.isWhole_whole _) flagM (Memref.isWhole_whole _) outM (Memref.isWhole_whole _)
      outM (Memref.isWhole_whole _) idxM (Memref.isWhole_whole _) flgM (Memref.isWhole_whole _) gM (Memref.isWhole_whole _)
      cc1_scratch3 cc1_scratch4 cc1_scoped0 cc1_scoped1 v0 v2 w = part2 i v2 w := rfl
/-- The third printed part, as gates. -/
theorem k1_part35_eq (i : grid1.Coords) (v0 : BitVec 32) (v2 : IVec S16 32) (c : BitVec 32) :
    k1_part35 (F := F) i xM (Memref.isWhole_whole _) selM (Memref.isWhole_whole _) flagM (Memref.isWhole_whole _) outM (Memref.isWhole_whole _)
      outM (Memref.isWhole_whole _) idxM (Memref.isWhole_whole _) flgM (Memref.isWhole_whole _) gM (Memref.isWhole_whole _)
      cc1_scratch3 cc1_scratch4 cc1_scoped0 cc1_scoped1 v0 v2 c = part3 i v2 c := rfl
/-- The fourth printed part, as gates. -/
theorem k1_part36_eq (i : grid1.Coords) (v0 : BitVec 32) (v84 : IVec S16 32) (c z : BitVec 32) :
    k1_part36 (F := F) i xM (Memref.isWhole_whole _) selM (Memref.isWhole_whole _) flagM (Memref.isWhole_whole _) outM (Memref.isWhole_whole _)
      outM (Memref.isWhole_whole _) idxM (Memref.isWhole_whole _) flgM (Memref.isWhole_whole _) gM (Memref.isWhole_whole _)
      cc1_scratch3 cc1_scratch4 cc1_scoped0 cc1_scoped1 v0 v84 c z = part4 i v84 c z := rfl

/-- The printed body is its parts in a row. -/
theorem cc1_parts (i : grid1.Coords) :
    cc1__fixup (F := F) i xM (Memref.isWhole_whole _) selM (Memref.isWhole_whole _) flagM (Memref.isWhole_whole _) outM (Memref.isWhole_whole _)
      outM (Memref.isWhole_whole _) idxM (Memref.isWhole_whole _) flgM (Memref.isWhole_whole _) gM (Memref.isWhole_whole _)
      cc1_scratch3 cc1_scratch4 cc1_scoped0 cc1_scoped1 =
      (do let ⟨_, v2, w⟩ ← part1 i
          let c ← part2 i v2 w
          let ⟨v84, c', z⟩ ← part3 i v2 c
          let b ← part4 i v84 c' z
          part5 i v84 b) := rfl

/-- The printed task is the task above. -/
theorem cc1_eq (i : grid1.Coords) :
    cc1__fixup (F := F) i xM (Memref.isWhole_whole _) selM (Memref.isWhole_whole _) flagM (Memref.isWhole_whole _) outM (Memref.isWhole_whole _)
      outM (Memref.isWhole_whole _) idxM (Memref.isWhole_whole _) flgM (Memref.isWhole_whole _) gM (Memref.isWhole_whole _)
      cc1_scratch3 cc1_scratch4 cc1_scoped0 cc1_scoped1 = taskP i := by
  rw [cc1_parts]
  unfold part1 taskP
  simp only [bind_assoc, groupsP_bind, pure_bind, part2, part3, part4, part5, gateP_bind]
  rfl

end Cert.Proof

end
-- ==== Proof.ScBlock.lean ====
/-
  One group of the SparseCore task: four gathers of a slab of columns each, and the copy of the 16 rows out.
-/
module

public import proofs.«01_k».proof.Proof.ScProg
public import Idealize.ShloMosaic.Lib.PointwiseCore
public import Idealize.ShloMosaic.Lib.WritesUnit

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- A word as a row of the table: itself where it is one, else the last. -/
def rowAt (w : BitVec 32) : Fin 2048 := ⟨min w.toNat 2047, by omega⟩

/-- What the gathers of group `g` bring: row `r` is the table's row named by entry `16 g + r` of the list. -/
def grpRows (X : S2048x512.Idx → F .f32) (fi : S512.Idx → BitVec 32) (g : ℕ) (hg : g < 32) : S16x512.Idx → F .f32 :=
  fun j => X (ix2 (rowAt (fi (ix1 ⟨16 * g + (j 0).val, by have : (j 0).val < 16 := (j 0).isLt; omega⟩))) (j 1))

variable (d : Dev nD) (i : grid1.Coords)

abbrev tV (i : grid1.Coords) : Thread nD τ := V d (cV i) (jV i)

/-- The place of an index of a vector of 16 is its coordinate. -/
theorem rowMajor_val_one' (x : S16.Idx) : (S16.rowMajor x).val = (x 0).val := Shape.rowMajor_val_one x

/-- One gather's payload is its slab of the group's rows. -/
theorem gather_val (g : ℕ) (hg : g < 32) (k : ℕ) (hk : k < 4) (X : Buf (Elt F) ((xM).view.loc (tV d i)))
    (fi : Buf (Elt F) ((idxM).view.loc (tV d i)))
    (hin : ∀ x : S16.Idx, ((listM g hg).view.read (Elt F) fi x : BitVec 32).toNat < 2048) (y : S16x128.Idx) (j : S16x512.Idx)
    (h0 : (j 0).val = (y 0).val) (h1 : (j 1).val = 128 * k + (y 1).val) :
    SparseCore.gatherPayload (F := F) gathers_S2048x128_S16x128 ((xSlab k hk).view.read (Elt F) X)
        (SparseCore.rows ((listM g hg).view.read (Elt F) fi) rfl hin) y = grpRows X fi g hg j := by
  unfold SparseCore.gatherPayload grpRows
  rw [View.read_apply, cast_eq]
  refine congrArg X (funext fun a => Fin.ext ?_)
  match a with
  | 0 =>
    show 0 + 1 * ((Shape.Gathers.idx gathers_S2048x128_S16x128 _ y) (Shape.Gathers.axis gathers_S2048x128_S16x128)).val = _
    rw [Shape.Gathers.idx_axis, Nat.zero_add, Nat.one_mul]
    have key : ∀ x : S16.Idx, (x 0).val = (y 0).val → (((listM g hg).view.read (Elt F) fi x : BitVec 32)).toNat
        = (rowAt (fi (ix1 ⟨16 * g + (j 0).val, by have : (j 0).val < 16 := (j 0).isLt; omega⟩))).val := by
      intro x hx
      have hlt := hin x
      have e : ((listM g hg).view.read (Elt F) fi x : BitVec 32)
          = fi (ix1 ⟨16 * g + (j 0).val, by have : (j 0).val < 16 := (j 0).isLt; omega⟩) := by
        rw [View.read_apply, cast_eq]
        refine congrArg fi (funext fun a => Fin.ext ?_)
        match a with
        | 0 =>
          show 16 * g + 1 * (x 0).val = 16 * g + (j 0).val
          rw [hx, h0, Nat.one_mul]
      rw [e] at hlt ⊢
      show _ = min _ 2047
      omega
    refine key _ ?_
    refine (rowMajor_val_one' _).symm.trans ?_
    rw [Equiv.apply_symm_apply]; rfl
  | 1 =>
    show 128 * k + 1 * ((Shape.Gathers.idx gathers_S2048x128_S16x128 _ y) 1).val = _
    rw [Shape.Gathers.idx_of_ne _ _ _ _ (by decide)]
    show _ = (j 1).val
    rw [h1, Nat.one_mul]; rfl

/-- The four gathers together leave the group's rows. -/
theorem gathers_val (g : ℕ) (hg : g < 32) (X : Buf (Elt F) ((xM).view.loc (tV d i))) (fg : Buf (Elt F) ((gM).view.loc (tV d i)))
    (fi : Buf (Elt F) ((idxM).view.loc (tV d i))) (p0 p1 p2 p3 : S16x128.Idx → F .f32)
    (hp : ∀ (p : S16x128.Idx → F .f32) (k : ℕ), (k, p) ∈ [(0, p0), (1, p1), (2, p2), (3, p3)] → ∀ (y : S16x128.Idx) (j : S16x512.Idx),
      (j 0).val = (y 0).val → (j 1).val = 128 * k + (y 1).val → p y = grpRows X fi g hg j) (j : S16x512.Idx) :
    (gM).view.read (Elt F) ((gM).view.writes (Elt F) fg
      [⟨Rect.unit (s := S16x512) ![0, 128 * 3] S16x128.size (gSlab_inb (by decide)), p3⟩,
        ⟨Rect.unit (s := S16x512) ![0, 128 * 2] S16x128.size (gSlab_inb (by decide)), p2⟩,
        ⟨Rect.unit (s := S16x512) ![0, 128 * 1] S16x128.size (gSlab_inb (by decide)), p1⟩,
        ⟨Rect.unit (s := S16x512) ![0, 128 * 0] S16x128.size (gSlab_inb (by decide)), p0⟩]) j = grpRows X fi g hg j := by
  have hj0 : (j 0).val < 16 := (j 0).isLt
  have hj1 : (j 1).val < 512 := (j 1).isLt
  have hit : ∀ (k : ℕ) (hk : k < 4) (p : S16x128.Idx → F .f32) L, (k, p) ∈ [(0, p0), (1, p1), (2, p2), (3, p3)] →
      128 * k ≤ (j 1).val → (j 1).val < 128 * k + 128 →
      (gM).view.read (Elt F) ((gM).view.writes (Elt F) fg
        (⟨Rect.unit (s := S16x512) ![0, 128 * k] S16x128.size (gSlab_inb hk), p⟩ :: L)) j = grpRows X fi g hg j := by
    intro k hk p L hm hlo hhi
    refine (View.read_writes_cons_unit_of_mem (s := S16x512) (off := ![0, 128 * k]) (off' := ![0, 128 * k]) (size := S16x128.size)
      (gM).view fg (gSlab_inb hk) p L j (ix2 (⟨(j 0).val, hj0⟩ : Fin 16) (⟨(j 1).val - 128 * k, by omega⟩ : Fin 128)) rfl ?_).trans (hp p k hm (ix2 (⟨(j 0).val, hj0⟩ : Fin 16) (⟨(j 1).val - 128 * k, by omega⟩ : Fin 128)) j rfl ?_)
    · intro a
      match a with
      | 0 => show (j 0).val = 0 + (j 0).val; omega
      | 1 => show (j 1).val = 128 * k + ((j 1).val - 128 * k); omega
    · show (j 1).val = 128 * k + ((j 1).val - 128 * k); omega
  have miss : ∀ (k : ℕ) (hk : k < 4) (p : S16x128.Idx → F .f32) L, (j 1).val < 128 * k →
      (gM).view.read (Elt F) ((gM).view.writes (Elt F) fg
        (⟨Rect.unit (s := S16x512) ![0, 128 * k] S16x128.size (gSlab_inb hk), p⟩ :: L)) j
        = (gM).view.read (Elt F) ((gM).view.writes (Elt F) fg L) j := fun k hk p L hlt =>
    View.read_writes_cons_unit_of_not_mem (s := S16x512) (off := ![0, 128 * k]) (off' := ![0, 128 * k]) (size := S16x128.size)
      (gM).view fg (gSlab_inb hk) p L j rfl (1 : Fin 2) (.inl hlt)
  by_cases h3 : 128 * 3 ≤ (j 1).val
  · exact hit 3 (by decide) p3 _ (by simp) h3 (by omega)
  refine (miss 3 (by decide) p3 _ (by omega)).trans ?_
  by_cases h2 : 128 * 2 ≤ (j 1).val
  · exact hit 2 (by decide) p2 _ (by simp) h2 (by omega)
  refine (miss 2 (by decide) p2 _ (by omega)).trans ?_
  by_cases h1 : 128 * 1 ≤ (j 1).val
  · exact hit 1 (by decide) p1 _ (by simp) h1 (by omega)
  refine (miss 1 (by decide) p1 _ (by omega)).trans ?_
  exact hit 0 (by decide) p0 _ (by simp) (by omega) (by omega)

set_option maxHeartbeats 4000000 in
/-- One group's program: from the table, the list, the group's rows of the output and the two semaphores at zero, it
    leaves the group's rows of the output at the rows the list names. -/
theorem group_wp (g : ℕ) (hg : g < 32) (q : PosShare TreeShare) (X : Buf (Elt F) ((xM).view.loc (tV d i)))
    (fg : Buf (Elt F) ((gM).view.loc (tV d i))) (fi : Buf (Elt F) ((idxM).view.loc (tV d i)))
    (fo fo' : Buf (Elt F) ((outM).view.loc (tV d i)))
    (hin : ∀ x : S16.Idx, ((listM g hg).view.read (Elt F) fi x : BitVec 32).toNat < 2048)
    (hfo : ∀ j : S16x512.Idx, (outG i g hg).view.read (Elt F) fo' j = grpRows X fi g hg j)
    (O : CellTallies nD τ sig (HIx 1)) (W : Waits sig (HIx 1)) :
    (iprop(((xM).view.loc (tV d i) ↦{q} X) ∗ ((gM).view.loc (tV d i) ↦{fullShare} fg) ∗ ((idxM).view.loc (tV d i) ↦{fullShare} fi)
        ∗ ((outG i g hg).view.loc (tV d i) ↦[(outG i g hg).view.set]{fullShare} fo)
        ∗ semVal (tV d i, .dma cc1_scratch3.sem) 0 ∗ semVal (tV d i, .dma cc1_scratch4.sem) 0
        ∗ Transfers.MayWaits (tV d i) (default : HIx 1) O ∗ owes (tV d i) O W) : sProp 𝕄)
      ⊢ wp frame (wpE (defs₀ (F := F)) 𝒱₀ (tV d i) none) Set.univ (groupP i g hg)
          fun _ => iprop(((xM).view.loc (tV d i) ↦{q} X) ∗ (∃ f, (gM).view.loc (tV d i) ↦{fullShare} f)
            ∗ ((idxM).view.loc (tV d i) ↦{fullShare} fi)
            ∗ ((outG i g hg).view.loc (tV d i) ↦[(outG i g hg).view.set]{fullShare} fo')
            ∗ semVal (tV d i, .dma cc1_scratch3.sem) 0 ∗ semVal (tV d i, .dma cc1_scratch4.sem) 0
            ∗ ∃ W', ⌜∀ p ∈ W', p ∈ W ∨ p.2 = none⌝ ∗ owes (tV d i) O W') := by
  unfold groupP slabP putP
  iintro ⟨Hx, Hg, Hi, Ho, Hs, Hs', Hmw, HO⟩
  sl_exec
  have hval : ∀ a ∈ (outG i g hg).view.set, (outG i g hg).view.writes (Elt F) fo
      [⟨Rect.whole S16x512, group_wp.sl.dma0 d i g hg X fg fi hin⟩] a = fo' a := by
    intro a ha
    obtain ⟨j, -, rfl⟩ := Finset.mem_map.mp ha
    have h1 := congrFun (View.read_writes_whole (outG i g hg).view fo (group_wp.sl.dma0 d i g hg X fg fi hin)) j
    have h2 := hfo j
    rw [View.read_apply, cast_eq] at h1 h2
    rw [h1, h2]
    refine gathers_val d i g hg X fg fi _ _ _ _ ?_ j
    intro p k hm y j' h0 h1
    simp only [List.mem_cons, List.not_mem_nil, or_false, Prod.mk.injEq] at hm
    rcases hm with ⟨rfl, rfl⟩ | ⟨rfl, rfl⟩ | ⟨rfl, rfl⟩ | ⟨rfl, rfl⟩ <;>
      exact gather_val d i g hg _ (by decide) X fi hin y j' h0 h1
  ihave Ho' := (Entails.of_eq (pointsTo_congr hval)) $$ Ho
  sl_step
  isplitl [Hx]; · iexact Hx
  isplitl [Hg]; · iexists _; iexact Hg
  isplitl [Hi]; · iexact Hi
  isplitl [Ho']; · iexact Ho'
  isplitl [Hs]; · iexact Hs
  isplitl [Hs']; · iexact Hs'
  iexists _; isplitr
  swap; · iexact HO
  ipureintro; intro p hp
  simp only [Finset.mem_insert] at hp
  rcases hp with hp | hp | hp | hp | hp | hp
  all_goals first | exact .inl hp | exact .inr (hp ▸ rfl)

end Cert.Proof

end
-- ==== Proof.ScTile.lean ====
/-
  The SparseCore task: the fetches, then its 32 groups in order, each under its flag. What holds between groups is that
  the rows of the groups done are final and the later rows are as they were.
-/
module

public import proofs.«01_k».proof.Proof.ScBlock

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## What the rows hold -/

/-- The output after task `b` has done its first `n` groups: in a group done whose flag is positive, the rows of the
    table its list names; elsewhere what was there. -/
def tileVal (X : S2048x512.Idx → F .f32) (fi : S512.Idx → BitVec 32) (fl : S32.Idx → BitVec 32) (o : S8192x512.Idx → F .f32)
    (b n : ℕ) : S8192x512.Idx → F .f32 := fun r =>
  if 512 * b ≤ (r 0).val ∧ (r 0).val < 512 * b + 16 * n
      ∧ 0 < (fl (ix1 (⟨((r 0).val - 512 * b) / 16 % 32, Nat.mod_lt _ (by decide)⟩ : Fin 32))).toInt then
    X (ix2 (rowAt (fi (ix1 (⟨((r 0).val - 512 * b) % 512, Nat.mod_lt _ (by decide)⟩ : Fin 512)))) (r 1))
  else o r

/-- The rows of task `b`. -/
def tileRows (b : ℕ) : Finset S8192x512.Idx := Finset.univ.filter fun r => (r 0).val / 512 = b

/-- Which elements a group's slice of the result holds. -/
theorem mem_outG (i : grid1.Coords) (g : ℕ) (hg : g < 32) (r : S8192x512.Idx) :
    r ∈ (outG i g hg).view.set ↔ 512 * (i 1).val + 16 * g ≤ (r 0).val ∧ (r 0).val < 512 * (i 1).val + 16 * g + 16 := by
  constructor
  · intro h
    obtain ⟨j, -, rfl⟩ := Finset.mem_map.mp h
    have h0 : (((outG i g hg).view.emb j) 0).val = grpOff i g 0 + 1 * (j 0).val := rfl
    have hj : (j 0).val < 16 := (j 0).isLt
    rw [h0, grpOff_eq i hg]
    show 512 * (i 1).val + 16 * g ≤ 512 * (i 1).val + 16 * g + 1 * (j 0).val
      ∧ 512 * (i 1).val + 16 * g + 1 * (j 0).val < 512 * (i 1).val + 16 * g + 16
    omega
  · rintro ⟨hlo, hhi⟩
    have h1 : (r 1).val < 512 := (r 1).isLt
    refine Finset.mem_map.mpr ⟨ix2 (⟨(r 0).val - (512 * (i 1).val + 16 * g), by omega⟩ : Fin 16) (⟨(r 1).val, h1⟩ : Fin 512),
      Finset.mem_univ _, funext fun a => Fin.ext ?_⟩
    match a with
    | 0 =>
      show grpOff i g 0 + 1 * ((r 0).val - (512 * (i 1).val + 16 * g)) = (r 0).val
      rw [grpOff_eq i hg]
      show 512 * (i 1).val + 16 * g + 1 * ((r 0).val - (512 * (i 1).val + 16 * g)) = (r 0).val
      omega
    | 1 =>
      show grpOff i g 1 + 1 * (r 1).val = (r 1).val
      rw [grpOff_eq i hg]
      show 0 + 1 * (r 1).val = (r 1).val
      omega

/-- A group's slice lies in its tile's rows. -/
theorem outG_sub (i : grid1.Coords) (g : ℕ) (hg : g < 32) : (outG i g hg).view.set ⊆ tileRows (i 1).val := by
  intro r hr
  have h := (mem_outG i g hg r).mp hr
  refine Finset.mem_filter.mpr ⟨Finset.mem_univ _, ?_⟩
  omega

/-- A group done under a positive flag: its rows are the gathered ones. -/
theorem tileVal_at (i : grid1.Coords) (g : ℕ) (hg : g < 32) (X : S2048x512.Idx → F .f32) (fi : S512.Idx → BitVec 32)
    (fl : S32.Idx → BitVec 32) (o : S8192x512.Idx → F .f32) (hpos : 0 < (fl (ix1 (⟨g, hg⟩ : Fin 32))).toInt) (j : S16x512.Idx) :
    (outG i g hg).view.read (Elt F) (tileVal X fi fl o (i 1).val (g + 1)) j = grpRows X fi g hg j := by
  have hj : (j 0).val < 16 := (j 0).isLt
  have h0 : (((outG i g hg).view.emb j) 0).val = 512 * (i 1).val + 16 * g + (j 0).val := by
    show grpOff i g 0 + 1 * (j 0).val = _
    rw [grpOff_eq i hg, Nat.one_mul]; rfl
  have h1 : (((outG i g hg).view.emb j) 1) = j 1 := Fin.ext (by
    show grpOff i g 1 + 1 * (j 1).val = _
    rw [grpOff_eq i hg, Nat.one_mul]
    show 0 + (j 1).val = _
    rw [Nat.zero_add])
  have e1 : (⟨(((outG i g hg).view.emb j 0).val - 512 * (i 1).val) / 16 % 32, Nat.mod_lt _ (by decide)⟩ : Fin 32) = ⟨g, hg⟩ :=
    Fin.ext (by show (((outG i g hg).view.emb j 0).val - 512 * (i 1).val) / 16 % 32 = g; rw [h0]; omega)
  have e2 : (⟨(((outG i g hg).view.emb j 0).val - 512 * (i 1).val) % 512, Nat.mod_lt _ (by decide)⟩ : Fin 512)
      = ⟨16 * g + (j 0).val, by omega⟩ :=
    Fin.ext (by show (((outG i g hg).view.emb j 0).val - 512 * (i 1).val) % 512 = _; rw [h0]; show _ = 16 * g + (j 0).val; omega)
  rw [View.read_apply, cast_eq]
  unfold tileVal grpRows
  rw [e1, e2, h1, if_pos ⟨by omega, by omega, hpos⟩]

/-- The other rows are as after the groups before. -/
theorem tileVal_off (i : grid1.Coords) (g : ℕ) (hg : g < 32) (X : S2048x512.Idx → F .f32) (fi : S512.Idx → BitVec 32)
    (fl : S32.Idx → BitVec 32) (o : S8192x512.Idx → F .f32) (r : S8192x512.Idx) (hr : r ∉ (outG i g hg).view.set) :
    tileVal X fi fl o (i 1).val g r = tileVal X fi fl o (i 1).val (g + 1) r := by
  rw [mem_outG] at hr
  unfold tileVal
  refine if_congr ?_ rfl rfl
  constructor <;> rintro ⟨a, b, c⟩ <;> exact ⟨a, by omega, c⟩

/-- A group whose flag is not positive: nothing changes. -/
theorem tileVal_skip (i : grid1.Coords) (g : ℕ) (hg : g < 32) (X : S2048x512.Idx → F .f32) (fi : S512.Idx → BitVec 32)
    (fl : S32.Idx → BitVec 32) (o : S8192x512.Idx → F .f32) (hpos : ¬ 0 < (fl (ix1 (⟨g, hg⟩ : Fin 32))).toInt) (r : S8192x512.Idx) :
    tileVal X fi fl o (i 1).val g r = tileVal X fi fl o (i 1).val (g + 1) r := by
  by_cases hr : r ∈ (outG i g hg).view.set
  · rw [mem_outG] at hr
    have e1 : (⟨((r 0).val - 512 * (i 1).val) / 16 % 32, Nat.mod_lt _ (by decide)⟩ : Fin 32) = ⟨g, hg⟩ :=
      Fin.ext (by show ((r 0).val - 512 * (i 1).val) / 16 % 32 = g; omega)
    unfold tileVal
    rw [e1, if_neg (fun h => hpos h.2.2), if_neg (fun h => hpos h.2.2)]
  · exact tileVal_off i g hg X fi fl o r hr

/-- After no groups the result is as it was. -/
theorem tileVal_zero (X : S2048x512.Idx → F .f32) (fi : S512.Idx → BitVec 32) (fl : S32.Idx → BitVec 32) (o : S8192x512.Idx → F .f32)
    (b : ℕ) : tileVal X fi fl o b 0 = o := by
  funext r
  unfold tileVal
  exact if_neg (fun h => by omega)

/-- The guard's word is zero exactly when the flag is not positive. -/
theorem gate_iff (b : BitVec 32) : Scalar.cmpi .ne (posW b) 0#32 = 1#1 ↔ 0 < b.toInt := by
  have e : (0#32).slt b = decide (0 < b.toInt) := rfl
  show BitVec.ofBool (BitVec.setWidth 32 (BitVec.ofBool ((0#32).slt b)) != 0#32) = 1#1 ↔ _
  rw [e]
  by_cases h : 0 < b.toInt
  · simp [h]
  · simp [h]

variable (d : Dev nD) (i : grid1.Coords)

/-- What the task holds before group `n`. -/
def tileSt (q : PosShare TreeShare) (X : Buf (Elt F) ((xM).view.loc (tV d i))) (fi : Buf (Elt F) ((idxM).view.loc (tV d i)))
    (fl : Buf (Elt F) ((flgM).view.loc (tV d i))) (o : Buf (Elt F) ((outM).view.loc (tV d i)))
    (O : CellTallies nD τ sig (HIx 1)) (W : Waits sig (HIx 1)) (n : ℕ) : sProp 𝕄 :=
  iprop(((xM).view.loc (tV d i) ↦{q} X) ∗ (∃ f, (gM).view.loc (tV d i) ↦{fullShare} f) ∗ ((idxM).view.loc (tV d i) ↦{fullShare} fi)
    ∗ ((flgM).view.loc (tV d i) ↦{fullShare} fl)
    ∗ ((outM).view.loc (tV d i) ↦[tileRows (i 1).val]{fullShare} (tileVal X fi fl o (i 1).val n))
    ∗ semVal (tV d i, .dma cc1_scratch3.sem) 0 ∗ semVal (tV d i, .dma cc1_scratch4.sem) 0
    ∗ Transfers.MayWaits (tV d i) (default : HIx 1) O ∗ ∃ W', ⌜∀ p ∈ W', p ∈ W ∨ p.2 = none⌝ ∗ owes (tV d i) O W')

/-- One group under its guard. -/
theorem gate_wp {α : Type} (q : PosShare TreeShare) (X : Buf (Elt F) ((xM).view.loc (tV d i))) (fi : Buf (Elt F) ((idxM).view.loc (tV d i)))
    (fl : Buf (Elt F) ((flgM).view.loc (tV d i))) (o : Buf (Elt F) ((outM).view.loc (tV d i)))
    (O : CellTallies nD τ sig (HIx 1)) (W : Waits sig (HIx 1)) (hfi : ∀ x : S512.Idx, (fi x : BitVec 32).toNat < 2048)
    (g : ℕ) (hg : g < 32) (b : BitVec 32) (hb : b = fl (ix1 (⟨g, hg⟩ : Fin 32))) (k : SProg (F := F) i α) (Q : α → sProp 𝕄)
    (hk : tileSt d i q X fi fl o O W (g + 1) ⊢ wp frame (wpE (defs₀ (F := F)) 𝒱₀ (tV d i) none) Set.univ k Q) :
    tileSt d i q X fi fl o O W g
      ⊢ wp frame (wpE (defs₀ (F := F)) 𝒱₀ (tV d i) none) Set.univ (gateP i g hg (posW b) 0#32 k) Q := by
  unfold gateP
  split
  · rename_i hc
    have hpos : 0 < (fl (ix1 (⟨g, hg⟩ : Fin 32)) : BitVec 32).toInt := by rw [← hb]; exact (gate_iff b).mp hc
    have hin : ∀ x : S16.Idx, ((listM g hg).view.read (Elt F) fi x : BitVec 32).toNat < 2048 := by
      intro x; rw [View.read_apply, cast_eq]; exact hfi _
    rw [wp_bind]
    unfold tileSt
    iintro ⟨Hx, ⟨%fg, Hg⟩, Hi, Hf, Ho, Hs, Hs', #Hmw, ⟨%W', %hW', HO⟩⟩
    ihave Hos := (pointsTo_split_subset (outG_sub i g hg)).1 $$ Ho
    icases Hos with ⟨Ho, Hor⟩
    iapply (wp_wand_r frame _)
    isplitl [Hx Hg Hi Ho Hs Hs' HO]
    · iapply (group_wp d i g hg q X fg fi _ (tileVal X fi fl o (i 1).val (g + 1)) hin
        (tileVal_at i g hg X fi fl o hpos) O W')
      isplitl [Hx]; · iexact Hx
      isplitl [Hg]; · iexact Hg
      isplitl [Hi]; · iexact Hi
      isplitl [Ho]; · iexact Ho
      isplitl [Hs]; · iexact Hs
      isplitl [Hs']; · iexact Hs'
      isplitr; · iexact Hmw
      iexact HO
    iintro %a ⟨Hx, Hg, Hi, Ho, Hs, Hs', ⟨%W'', %hW'', HO⟩⟩
    iapply hk
    unfold tileSt
    isplitl [Hx]; · iexact Hx
    isplitl [Hg]; · iexact Hg
    isplitl [Hi]; · iexact Hi
    isplitl [Hf]; · iexact Hf
    isplitl [Ho Hor]
    · iapply (pointsTo_split_subset (outG_sub i g hg)).2
      isplitl [Ho]; · iexact Ho
      iapply (Entails.of_eq (pointsTo_congr fun r hr => tileVal_off i g hg X fi fl o r (Finset.mem_sdiff.mp hr).2))
      iexact Hor
    isplitl [Hs]; · iexact Hs
    isplitl [Hs']; · iexact Hs'
    isplitr; · iexact Hmw
    iexists W''; isplitr
    · ipureintro
      intro p hp
      rcases hW'' p hp with h | h
      · exact hW' p h
      · exact .inr h
    · iexact HO
  · rename_i hc
    have hpos : ¬ 0 < (fl (ix1 (⟨g, hg⟩ : Fin 32)) : BitVec 32).toInt := fun h => hc ((gate_iff b).mpr (by rw [hb]; exact h))
    refine BI.Entails.trans ?_ hk
    unfold tileSt
    rw [show tileVal X fi fl o (i 1).val g = tileVal X fi fl o (i 1).val (g + 1) from
      funext fun r => tileVal_skip i g hg X fi fl o hpos r]
    exact BI.Entails.refl _

/-- The list holds the lanes `n`, `n + 1`, … in order. -/
def Run : ℕ → List (Fin 16) → Prop
  | _, [] => True
  | n, t :: ts => t.val = n ∧ Run (n + 1) ts

/-- A run of groups under their guards. -/
theorem groups_wp {α : Type} (q : PosShare TreeShare) (X : Buf (Elt F) ((xM).view.loc (tV d i))) (fi : Buf (Elt F) ((idxM).view.loc (tV d i)))
    (fl : Buf (Elt F) ((flgM).view.loc (tV d i))) (o : Buf (Elt F) ((outM).view.loc (tV d i)))
    (O : CellTallies nD τ sig (HIx 1)) (W : Waits sig (HIx 1)) (hfi : ∀ x : S512.Idx, (fi x : BitVec 32).toNat < 2048)
    (h : ℕ) (hh : h < 2) (v : IVec S16 32) (hv : ∀ t : Fin 16, laneV v t = fl (ix1 (⟨16 * h + t.val, grp_lt hh t⟩ : Fin 32)))
    (k : SProg (F := F) i α) (Q : α → sProp 𝕄) (ts : List (Fin 16)) (n : ℕ) (hr : Run n ts)
    (hk : tileSt d i q X fi fl o O W (16 * h + n + ts.length) ⊢ wp frame (wpE (defs₀ (F := F)) 𝒱₀ (tV d i) none) Set.univ k Q) :
    tileSt d i q X fi fl o O W (16 * h + n)
      ⊢ wp frame (wpE (defs₀ (F := F)) 𝒱₀ (tV d i) none) Set.univ (groupsP i h hh v k ts) Q := by
  induction ts generalizing n with
  | nil => exact hk
  | cons t ts ih =>
    obtain ⟨rfl, hr⟩ := hr
    refine gate_wp d i q X fi fl o O W hfi _ (grp_lt hh t) _ (hv t) _ Q ?_
    refine ih (t.val + 1) hr ?_
    rw [show 16 * h + (t.val + 1) + ts.length = 16 * h + t.val + (t :: ts).length by simp only [List.length_cons]; omega]
    exact hk

end Cert.Proof

end
-- ==== Proof.ScTask.lean ====
/-
  The whole SparseCore task: the two fetches and the 32 groups.
-/
module

public import proofs.«01_k».proof.Proof.ScTile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (i : grid1.Coords)

/-- The selected rows of task `b`. -/
def selOf (SEL : S8192.Idx → BitVec 32) (b : Fin 16) : S512.Idx → BitVec 32 :=
  fun j => SEL (ix1 (⟨512 * b.val + (j 0).val, by have : (j 0).val < 512 := (j 0).isLt; omega⟩ : Fin 8192))
/-- The flags of task `b`. -/
def flOf (FL : S16x32.Idx → BitVec 32) (b : Fin 16) : S32.Idx → BitVec 32 := fun j => FL (ix2 b (j 0))

/-- The fetches leave the task's selected rows and flags in its memory. -/
theorem fetch_wp (q1 q2 : PosShare TreeShare) (SEL : Buf (Elt F) ((selM).view.loc (tV d i)))
    (FL : Buf (Elt F) ((flagM).view.loc (tV d i))) (fi : Buf (Elt F) ((idxM).view.loc (tV d i)))
    (fl : Buf (Elt F) ((flgM).view.loc (tV d i))) (O : CellTallies nD τ sig (HIx 1)) (W : Waits sig (HIx 1)) :
    (iprop(((selM).view.loc (tV d i) ↦{q1} SEL) ∗ ((flagM).view.loc (tV d i) ↦{q2} FL)
        ∗ ((idxM).view.loc (tV d i) ↦{fullShare} fi) ∗ ((flgM).view.loc (tV d i) ↦{fullShare} fl)
        ∗ semVal (tV d i, .dma cc1_scoped0.sem) 0 ∗ semVal (tV d i, .dma cc1_scoped1.sem) 0
        ∗ Transfers.MayWaits (tV d i) (default : HIx 1) O ∗ owes (tV d i) O W) : sProp 𝕄)
      ⊢ wp frame (wpE (defs₀ (F := F)) 𝒱₀ (tV d i) none) Set.univ (fetchP i)
          fun _ => iprop(((selM).view.loc (tV d i) ↦{q1} SEL) ∗ ((flagM).view.loc (tV d i) ↦{q2} FL)
            ∗ ((idxM).view.loc (tV d i) ↦{fullShare} (selOf SEL ⟨(i 1).val, lt16 i⟩))
            ∗ ((flgM).view.loc (tV d i) ↦{fullShare} (flOf FL ⟨(i 1).val, lt16 i⟩))
            ∗ semVal (tV d i, .dma cc1_scoped0.sem) 0 ∗ semVal (tV d i, .dma cc1_scoped1.sem) 0
            ∗ ∃ W', ⌜∀ p ∈ W', p ∈ W ∨ p.2 = none⌝ ∗ owes (tV d i) O W') := by
  unfold fetchP
  iintro ⟨Hsel, Hfl, Hi, Hf, Hc, Hc', #Hmw, HO⟩
  sl_exec
  sl_step
  have h16 := lt16 i
  have e1 : View.write (Elt F) (idxM).view fi (fetch_wp.sl.dma0 d i SEL) Finset.univ = selOf SEL ⟨(i 1).val, lt16 i⟩ := by
    rw [View.write_whole_univ]
    funext j
    show (selT i).view.read (Elt F) SEL j = _
    rw [View.read_apply, cast_eq]
    refine congrArg SEL (funext fun a => Fin.ext ?_)
    match a with
    | 0 =>
      show (Scalar.muli (BitVec.ofNat 32 (i 1).val) 512#32).toNat + 1 * (j 0).val = 512 * (i 1).val + (j 0).val
      simp only [Scalar.muli, IntOp.muli, BitVec.toNat_mul, BitVec.toNat_ofNat]
      omega
  have e2 : View.write (Elt F) (flgM).view fl (fetch_wp.sl.dma0_1 d i FL) Finset.univ = flOf FL ⟨(i 1).val, lt16 i⟩ := by
    rw [View.write_whole_univ]
    funext j
    show (flagT i).view.read (Elt F) FL j = _
    rw [View.read_apply, cast_eq]
    have hr := Shape.reshapeEquiv_cons_one (d := ![32]) (squeezes_S1x32_S32.numel_eq.symm) j
    refine congrArg FL ?_
    show (Rect.unit (s := S16x32) (k1_off2 i) S1x32.size (k1_off2_inb i)).emb (Shape.reshapeEquiv _ j) = _
    rw [hr]
    refine funext fun a => Fin.ext ?_
    match a with
    | 0 =>
      show (BitVec.ofNat 32 (i 1).val).toNat + 1 * 0 = (i 1).val
      simp only [BitVec.toNat_ofNat]
      omega
    | 1 =>
      show 0 + 1 * (j 0).val = (j 0).val
      omega
  isplitl [Hsel]; · iexact Hsel
  isplitl [Hfl]; · iexact Hfl
  isplitl [Hi]; · iapply (Entails.of_eq (congrArg (fun f => ((idxM).view.loc (tV d i) ↦{fullShare} f : sProp 𝕄)) e1)); iexact Hi
  isplitl [Hf]; · iapply (Entails.of_eq (congrArg (fun f => ((flgM).view.loc (tV d i) ↦{fullShare} f : sProp 𝕄)) e2)); iexact Hf
  isplitl [Hc]; · iexact Hc
  isplitl [Hc']; · iexact Hc'
  iexists _; isplitr
  swap; · iexact HO
  ipureintro; intro p hp
  simp only [Finset.mem_insert] at hp
  rcases hp with hp | hp | hp
  all_goals first | exact .inl hp | exact .inr (hp ▸ rfl)

/-- A lane of a vector. -/
theorem laneV_apply (v : IVec S16 32) (t : Fin 16) : laneV v t = v (ix1 t) := by
  unfold laneV extractAt extractStridedSlice
  exact congrArg v (funext fun a => match a with | 0 => Fin.ext rfl)

/-- A half's flags as loaded. -/
theorem load0_wp (fl : Buf (Elt F) ((flgM).view.loc (tV d i))) :
    ((flgM).view.loc (tV d i) ↦{fullShare} fl : sProp 𝕄)
      ⊢ wp frame (wpE (defs₀ (F := F)) 𝒱₀ (tV d i) none) Set.univ (loadP0 i)
          fun v => iprop(⌜∀ t : Fin 16, laneV (shapeCast S16 v shapeCasts_S16_S16) t = fl (ix1 (⟨16 * 0 + t.val, grp_lt (by decide) t⟩ : Fin 32))⌝
            ∗ ((flgM).view.loc (tV d i) ↦{fullShare} fl)) := by
  unfold loadP0
  iintro Hf
  sl_exec
  sl_step
  isplitr
  · ipureintro
    intro t
    rw [laneV_apply, shapeCast_id, View.readAt_apply]
    exact congrArg fl (funext fun a => match a with | 0 => Fin.ext (by show 0 + 1 * t.val = 16 * 0 + t.val; omega))
  · iexact Hf

/-- The load of 16 flags. -/
theorem load1_wp (fl : Buf (Elt F) ((flgM).view.loc (tV d i))) :
    ((flgM).view.loc (tV d i) ↦{fullShare} fl : sProp 𝕄)
      ⊢ wp frame (wpE (defs₀ (F := F)) 𝒱₀ (tV d i) none) Set.univ (loadP1 i)
          fun v => iprop(⌜∀ t : Fin 16, laneV (shapeCast S16 v shapeCasts_S16_S16) t = fl (ix1 (⟨16 * 1 + t.val, grp_lt (by decide) t⟩ : Fin 32))⌝
            ∗ ((flgM).view.loc (tV d i) ↦{fullShare} fl)) := by
  unfold loadP1
  iintro Hf
  sl_exec
  sl_step
  isplitr
  · ipureintro
    intro t
    rw [laneV_apply, shapeCast_id, View.readAt_apply]
    exact congrArg fl (funext fun a => match a with | 0 => Fin.ext (by show 16 + 1 * t.val = 16 * 1 + t.val; omega))
  · iexact Hf

/-- Load a half's flags, then its groups, from what the task holds before the half. -/
theorem half_wp {α : Type} (q : PosShare TreeShare) (X : Buf (Elt F) ((xM).view.loc (tV d i))) (fi : Buf (Elt F) ((idxM).view.loc (tV d i)))
    (fl : Buf (Elt F) ((flgM).view.loc (tV d i))) (o : Buf (Elt F) ((outM).view.loc (tV d i)))
    (O : CellTallies nD τ sig (HIx 1)) (W : Waits sig (HIx 1)) (hfi : ∀ x : S512.Idx, (fi x : BitVec 32).toNat < 2048)
    (h : ℕ) (hh : h < 2) (ld : SProg (F := F) i (Vec F S16 .i32))
    (hld : ((flgM).view.loc (tV d i) ↦{fullShare} fl : sProp 𝕄) ⊢ wp frame (wpE (defs₀ (F := F)) 𝒱₀ (tV d i) none) Set.univ ld
      fun v => iprop(⌜∀ t : Fin 16, laneV (shapeCast S16 v shapeCasts_S16_S16) t = fl (ix1 (⟨16 * h + t.val, grp_lt hh t⟩ : Fin 32))⌝
            ∗ ((flgM).view.loc (tV d i) ↦{fullShare} fl)))
    (k : SProg (F := F) i α) (Q : α → sProp 𝕄)
    (hk : tileSt d i q X fi fl o O W (16 * h + 16) ⊢ wp frame (wpE (defs₀ (F := F)) 𝒱₀ (tV d i) none) Set.univ k Q) :
    tileSt d i q X fi fl o O W (16 * h)
      ⊢ wp frame (wpE (defs₀ (F := F)) 𝒱₀ (tV d i) none) Set.univ
        (ld >>= fun v => groupsP i h hh (shapeCast S16 v shapeCasts_S16_S16) k [0, 1, 2, 3, 4, 5, 6, 7, 8, 9, 10, 11, 12, 13, 14, 15]) Q := by
  rw [wp_bind]
  have hg := fun (v : Vec F S16 .i32) hv => groups_wp d i q X fi fl o O W hfi h hh (shapeCast S16 v shapeCasts_S16_S16) hv k Q
    [0, 1, 2, 3, 4, 5, 6, 7, 8, 9, 10, 11, 12, 13, 14, 15] 0
    ⟨rfl, rfl, rfl, rfl, rfl, rfl, rfl, rfl, rfl, rfl, rfl, rfl, rfl, rfl, rfl, rfl, trivial⟩ hk
  unfold tileSt
  iintro ⟨Hx, Hg, Hi, Hf, Hr⟩
  iapply (wp_wand_r frame _)
  isplitl [Hf]; · iapply hld; iexact Hf
  iintro %v ⟨%hv, Hf⟩
  iapply (hg v hv)
  unfold tileSt
  isplitl [Hx]; · iexact Hx
  isplitl [Hg]; · iexact Hg
  isplitl [Hi]; · iexact Hi
  isplitl [Hf]; · iexact Hf
  iexact Hr

/-- The task on one vector subcore: from the table, the selected rows, the flags and its rows of the output, it leaves
    its rows final and the rest as found. -/
theorem task_wp (q q1 q2 : PosShare TreeShare) (X : Buf (Elt F) ((xM).view.loc (tV d i))) (SEL : Buf (Elt F) ((selM).view.loc (tV d i)))
    (FL : Buf (Elt F) ((flagM).view.loc (tV d i))) (fi : Buf (Elt F) ((idxM).view.loc (tV d i)))
    (fl : Buf (Elt F) ((flgM).view.loc (tV d i))) (fg : Buf (Elt F) ((gM).view.loc (tV d i)))
    (o : Buf (Elt F) ((outM).view.loc (tV d i))) (hsel : ∀ r : S8192.Idx, (SEL r : BitVec 32).toNat < 2048)
    (O : CellTallies nD τ sig (HIx 1)) (W : Waits sig (HIx 1)) :
    (iprop(((xM).view.loc (tV d i) ↦{q} X) ∗ ((selM).view.loc (tV d i) ↦{q1} SEL) ∗ ((flagM).view.loc (tV d i) ↦{q2} FL)
        ∗ ((outM).view.loc (tV d i) ↦[tileRows (i 1).val]{fullShare} o)
        ∗ ((idxM).view.loc (tV d i) ↦{fullShare} fi) ∗ ((flgM).view.loc (tV d i) ↦{fullShare} fl) ∗ ((gM).view.loc (tV d i) ↦{fullShare} fg)
        ∗ semVal (tV d i, .dma cc1_scratch3.sem) 0 ∗ semVal (tV d i, .dma cc1_scratch4.sem) 0
        ∗ semVal (tV d i, .dma cc1_scoped0.sem) 0 ∗ semVal (tV d i, .dma cc1_scoped1.sem) 0
        ∗ Transfers.MayWaits (tV d i) (default : HIx 1) O ∗ owes (tV d i) O W) : sProp 𝕄)
      ⊢ wp frame (wpE (defs₀ (F := F)) 𝒱₀ (tV d i) none) Set.univ (taskP i)
          fun _ => iprop(((xM).view.loc (tV d i) ↦{q} X) ∗ ((selM).view.loc (tV d i) ↦{q1} SEL) ∗ ((flagM).view.loc (tV d i) ↦{q2} FL)
            ∗ ((outM).view.loc (tV d i) ↦[tileRows (i 1).val]{fullShare}
                (tileVal X (selOf SEL ⟨(i 1).val, lt16 i⟩) (flOf FL ⟨(i 1).val, lt16 i⟩) o (i 1).val 32))
            ∗ (∃ f, (idxM).view.loc (tV d i) ↦{fullShare} f) ∗ (∃ f, (flgM).view.loc (tV d i) ↦{fullShare} f)
            ∗ (∃ f, (gM).view.loc (tV d i) ↦{fullShare} f)
            ∗ semVal (tV d i, .dma cc1_scratch3.sem) 0 ∗ semVal (tV d i, .dma cc1_scratch4.sem) 0
            ∗ semVal (tV d i, .dma cc1_scoped0.sem) 0 ∗ semVal (tV d i, .dma cc1_scoped1.sem) 0
            ∗ ∃ W', ⌜∀ p ∈ W', p ∈ W ∨ p.2 = none⌝ ∗ owes (tV d i) O W') := by
  have hfi : ∀ x : S512.Idx, (selOf SEL ⟨(i 1).val, lt16 i⟩ x : BitVec 32).toNat < 2048 := fun x => hsel _
  have hmain := fun (W' : Waits sig (HIx 1)) => half_wp d i q X (selOf SEL ⟨(i 1).val, lt16 i⟩) (flOf FL ⟨(i 1).val, lt16 i⟩) o O W' hfi
    0 (by decide) (loadP0 i) (load0_wp d i _) _ _ (half_wp d i q X (selOf SEL ⟨(i 1).val, lt16 i⟩) (flOf FL ⟨(i 1).val, lt16 i⟩) o O W' hfi
    1 (by decide) (loadP1 i) (load1_wp d i _) (pure PUnit.unit) (fun _ => tileSt d i q X (selOf SEL ⟨(i 1).val, lt16 i⟩) (flOf FL ⟨(i 1).val, lt16 i⟩) o O W' 32)
    (by rw [wp_pure]; exact fupd_intro))
  unfold taskP
  rw [wp_bind]
  iintro ⟨Hx, Hsel, Hfl, Ho, Hi, Hf, Hg, Hs, Hs', Hc, Hc', #Hmw, HO⟩
  iapply (wp_wand_r frame _)
  isplitl [Hsel Hfl Hi Hf Hc Hc' HO]
  · iapply (fetch_wp d i q1 q2 SEL FL fi fl O W)
    isplitl [Hsel]; · iexact Hsel
    isplitl [Hfl]; · iexact Hfl
    isplitl [Hi]; · iexact Hi
    isplitl [Hf]; · iexact Hf
    isplitl [Hc]; · iexact Hc
    isplitl [Hc']; · iexact Hc'
    isplitr; · iexact Hmw
    iexact HO
  iintro %a ⟨Hsel, Hfl, Hi, Hf, Hc, Hc', ⟨%W1, %hW1, HO⟩⟩
  iapply (wp_wand_r frame _)
  isplitl [Hx Ho Hi Hf Hg Hs Hs' HO]
  · iapply (hmain W1)
    unfold tileSt
    isplitl [Hx]; · iexact Hx
    isplitl [Hg]; · iexists fg; iexact Hg
    isplitl [Hi]; · iexact Hi
    isplitl [Hf]; · iexact Hf
    isplitl [Ho]; · rw [show 16 * 0 = 0 from rfl, tileVal_zero]; iexact Ho
    isplitl [Hs]; · iexact Hs
    isplitl [Hs']; · iexact Hs'
    isplitr; · iexact Hmw
    iexists W1; isplitr
    · ipureintro; exact fun p hp => .inl hp
    · iexact HO
  unfold tileSt
  iintro %a' ⟨Hx, Hg, Hi, Hf, Ho, Hs, Hs', -, ⟨%W2, %hW2, HO⟩⟩
  isplitl [Hx]; · iexact Hx
  isplitl [Hsel]; · iexact Hsel
  isplitl [Hfl]; · iexact Hfl
  isplitl [Ho]; · iexact Ho
  isplitl [Hi]; · iexists _; iexact Hi
  isplitl [Hf]; · iexists _; iexact Hf
  isplitl [Hg]; · iexact Hg
  isplitl [Hs]; · iexact Hs
  isplitl [Hs']; · iexact Hs'
  isplitl [Hc]; · iexact Hc
  isplitl [Hc']; · iexact Hc'
  iexists W2; isplitr
  · ipureintro
    intro p hp
    rcases hW2 p hp with h | h
    · exact hW1 p h
    · exact .inr h
  · iexact HO

end Cert.Proof

end
-- ==== Proof.Vals.lean ====
/-
  What the TensorCore region computes at each grid point, as functions of the whole argument arrays.
-/
module

public import proofs.«01_k».proof.Proof.Common
public import Idealize.ShloMosaic.Lib.PointwiseCore

@[expose] public section

noncomputable section

namespace Cert.Proof

open Cert.KernelIdeal Cert.KernelIdeal.Gen

open Idealize.ShloMosaic Idealize.ShloMosaic.TcCoe

variable {F : FTy → Type} [FloatOps F]

/-- The query block of grid point `i`: 512 columns of the 4-row transposed query coordinates. -/
def yBlk (X2 : Vec F S4x8192 .i32) (i : grid0.Coords) : Vec F S4x512 .i32 :=
  fun j => X2 ((Rect.unit (s := S4x8192) (k0_off1 i) S4x512.size (k0_off1_inb i)).toLoadRect.idx j)

/-- One coordinate column of the 2048 points. -/
def xCol (X0 : Vec F S2048x4 .i32) (k : ℕ) (h : ∀ a, (![0, k] : Fin 2 → ℕ) a + S2048x1.size a ≤ S2048x4.size a) : Vec F S2048x1 .i32 :=
  fun j => X0 ((Rect.unit (s := S2048x4) ![0, k] S2048x1.size h).toLoadRect.idx j)

/-- The smallest matching row per query of block `i` (2048 where there is none). -/
def minB (X0 : Vec F S2048x4 .i32) (X2 : Vec F S4x8192 .i32) (i : grid0.Coords) : IVec S512 32 :=
  k0_pay3 (F := F) (xCol X0 0 inb_S2048x4_S2048x1_0_0) (xCol X0 1 inb_S2048x4_S2048x1_0_1) (xCol X0 2 inb_S2048x4_S2048x1_0_2)
    (xCol X0 3 inb_S2048x4_S2048x1_0_3) (yBlk X2 i)

/-- The selected row per query of block `i`. -/
def selB (X0 : Vec F S2048x4 .i32) (X2 : Vec F S4x8192 .i32) (i : grid0.Coords) : IVec S512 32 :=
  k0_pay5 (minB X0 X2 i) 2048#32

/-- Coordinates of point 0, as a column. -/
def xHead (X1 : Vec F S4x2048 .i32) : Vec F S4x1 .i32 :=
  fun j => X1 ((Rect.unit (s := S4x2048) ![0, 0] S4x1.size inb_S4x2048_S4x1_0_0).toLoadRect.idx j)

/-- The transposed result coordinates of block `i`. -/
def fctB (X0 : Vec F S2048x4 .i32) (X1 : Vec F S4x2048 .i32) (X2 : Vec F S4x8192 .i32) (i : grid0.Coords) : FVec F S4x512 .f32 :=
  k0_pay6 (k0_pay2 (yBlk X2 i)) (minB X0 X2 i) 2048#32 (xHead X1)

/-- Row 0 of the feature block. -/
def featHead (X3 : Vec F S8x512 .f32) : Vec F S1x512 .f32 :=
  fun j => X3 ((Rect.unit (s := S8x512) ![0, 0] S1x512.size inb_S8x512_S1x512_0_0).toLoadRect.idx j)

/-- The constant feature block: row 0 in every row. -/
def featB (X3 : Vec F S8x512 .f32) : FVec F S512x512 .f32 := k0_pay7 (featHead X3)

/-- The row number of each (row, group) pair of a block of 512 queries. -/
def rowIdx : IVec S512x32 32 := iota .tc S512x32 32 [0] iota_S512x32_d0_w32

/-- Per group of 16 queries of block `i`, whether some selected row is not row 0. -/
def flagB (X0 : Vec F S2048x4 .i32) (X2 : Vec F S4x8192 .i32) (i : grid0.Coords) : IVec S1x32 32 :=
  k0_pay1 (F := F) (selB X0 X2 i) rowIdx k0_pay8 k0_pay9 k0_pay10

/-! ## Where each grid point's blocks lie -/

/-- Where a step's columns begin. -/
theorem off1_eq : ∀ t : Fin grid0.N, k0_off1 (grid0.coords t) = ![0, 512 * t.val] := by decide
/-- Where a step's row numbers begin. -/
theorem off2_eq : ∀ t : Fin grid0.N, k0_off2 (grid0.coords t) = ![512 * t.val] := by decide
/-- Which row of flags a step writes. -/
theorem off3_eq : ∀ t : Fin grid0.N, k0_off3 (grid0.coords t) = ![t.val, 0] := by decide

/-! ## The region's results as whole arrays -/

/-- The grid point whose block holds query `r`. -/
def ptOf (r : ℕ) (h : r < 8192) : grid0.Coords := grid0.coords ⟨r / 512, by rw [N_0]; omega⟩

/-- The selected row of every query. -/
def selAll (X0 : Vec F S2048x4 .i32) (X2 : Vec F S4x8192 .i32) : Vec F S8192 .i32 := fun r =>
  selB X0 X2 (ptOf (r 0).val (r 0).isLt) (ix1 ⟨(r 0).val % 512, Nat.mod_lt _ (by decide)⟩)

/-- The result coordinates of every query, transposed. -/
def fctAll (X0 : Vec F S2048x4 .i32) (X1 : Vec F S4x2048 .i32) (X2 : Vec F S4x8192 .i32) : Vec F S4x8192 .f32 := fun r =>
  fctB X0 X1 X2 (ptOf (r 1).val (r 1).isLt) (ix2 (r 0) ⟨(r 1).val % 512, Nat.mod_lt _ (by decide)⟩)

/-- The flag of every group of 16 queries: 32 groups per block. -/
def flagAll (X0 : Vec F S2048x4 .i32) (X2 : Vec F S4x8192 .i32) : Vec F S16x32 .i32 := fun r =>
  flagB X0 X2 (grid0.coords ⟨(r 0).val, by rw [N_0]; exact (r 0).isLt⟩) (ix2 0 (r 1))

/-- Feature row 0 in every row. -/
def feat0All (XF : Vec F S2048x512 .f32) : Vec F S8192x512 .f32 := fun r => XF (ix2 0 (r 1))

end Cert.Proof
end
-- ==== Proof.TcBody.lean ====
/-
  The TensorCore region's body: one run of it at a grid point, and what that point's stores leave in the result
  buffers.
-/
module

public import proofs.«01_k».proof.Proof.Vals
public import Idealize.ShloMosaic.Lib.VecWindow

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx Pay)

variable {F : FTy → Type} [FloatOps F]

local notation "𝕄" => MM F

/-- The contents type of memref `M`'s buffer on core `c`; and that buffer held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- What one grid point's body leaves in the four result buffers, with the proof that from the eight staging buffers
    held whole it runs to its return and leaves them so. -/
noncomputable def bodyRun (c : Dev nD) (i : grid0.Coords)
    (M0 : Memref sig .tc .vmem S2048x4 .i32) (h0 : M0.IsWhole) (M1 : Memref sig .tc .vmem S4x2048 .i32) (h1 : M1.IsWhole)
    (M2 : Memref sig .tc .vmem S4x8192 .i32) (h2 : M2.IsWhole) (M3 : Memref sig .tc .vmem S8x512 .f32) (h3 : M3.IsWhole)
    (M4 : Memref sig .tc .vmem S8192 .i32) (h4 : M4.IsWhole) (M5 : Memref sig .tc .vmem S4x8192 .f32) (h5 : M5.IsWhole)
    (M6 : Memref sig .tc .vmem S512x512 .f32) (h6 : M6.IsWhole) (M7 : Memref sig .tc .vmem S16x32 .i32) (h7 : M7.IsWhole)
    (f0 : Bf F c M0) (f1 : Bf F c M1) (f2 : Bf F c M2) (f3 : Bf F c M3) (f4 : Bf F c M4) (f5 : Bf F c M5) (f6 : Bf F c M6) (f7 : Bf F c M7) :
    { W : Bf F c M4 × Bf F c M5 × Bf F c M6 × Bf F c M7 // ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ (iprop(pt c M0 f0 ∗ pt c M1 f1 ∗ pt c M2 f2 ∗ pt c M3 f3 ∗ pt c M4 W.1 ∗ pt c M5 W.2.1 ∗ pt c M6 W.2.2.1 ∗ pt c M7 W.2.2.2) -∗ Q ⟨⟩))
          ⊢ wp frame (wpE (defs₀ (F := F)) Variants.none c none) E
              (cc0__match_body i M0 h0 M1 h1 M2 h2 M3 h3 M4 h4 M5 h5 M6 h6 M7 h7) Q } := by
  refine ⟨(?w4, ?w5, ?w6, ?w7), fun E Q => ?run⟩
  case run =>
    rw [cc0__match_body_eq_skeleton]
    unfold cc0__match_body_skel
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

section Values

variable (c : Dev nD) (i : grid0.Coords) (M0 : Memref sig .tc .vmem S2048x4 .i32) (h0 : M0.IsWhole) (M1 : Memref sig .tc .vmem S4x2048 .i32) (h1 : M1.IsWhole)
    (M2 : Memref sig .tc .vmem S4x8192 .i32) (h2 : M2.IsWhole) (M3 : Memref sig .tc .vmem S8x512 .f32) (h3 : M3.IsWhole)
    (M4 : Memref sig .tc .vmem S8192 .i32) (h4 : M4.IsWhole) (M5 : Memref sig .tc .vmem S4x8192 .f32) (h5 : M5.IsWhole)
    (M6 : Memref sig .tc .vmem S512x512 .f32) (h6 : M6.IsWhole) (M7 : Memref sig .tc .vmem S16x32 .i32) (h7 : M7.IsWhole)
    (f0 : Bf F c M0) (f1 : Bf F c M1) (f2 : Bf F c M2) (f3 : Bf F c M3) (f4 : Bf F c M4) (f5 : Bf F c M5) (f6 : Bf F c M6) (f7 : Bf F c M7)

/-- The selection buffer after the point: this point's 512 rows stored over what it held. -/
theorem run_sel :
    (bodyRun c i M0 h0 M1 h1 M2 h2 M3 h3 M4 h4 M5 h5 M6 h6 M7 h7 f0 f1 f2 f3 f4 f5 f6 f7).1.1 = M4.view.writes (Elt F) f4
    [⟨Rect.unit (s := S8192) (k0_off2 i) S512.size (k0_off2_inb i), selB (M0.view.read (Elt F) f0) (M2.view.read (Elt F) f2) i⟩] := rfl

/-- The coordinate buffer after the point. -/
theorem run_fct : (bodyRun c i M0 h0 M1 h1 M2 h2 M3 h3 M4 h4 M5 h5 M6 h6 M7 h7 f0 f1 f2 f3 f4 f5 f6 f7).1.2.1 = M5.view.writes (Elt F) f5
    [⟨Rect.unit (s := S4x8192) (k0_off1 i) S4x512.size (k0_off1_inb i),
      fctB (M0.view.read (Elt F) f0) (M1.view.read (Elt F) f1) (M2.view.read (Elt F) f2) i⟩] := by
  unfold bodyRun
  dsimp only
  congr 2

/-- The feature block after the point reads as the constant block. -/
theorem run_feat : M6.view.read (Elt F) (bodyRun c i M0 h0 M1 h1 M2 h2 M3 h3 M4 h4 M5 h5 M6 h6 M7 h7 f0 f1 f2 f3 f4 f5 f6 f7).1.2.2.1 = featB (M3.view.read (Elt F) f3) := by
  have e : (bodyRun c i M0 h0 M1 h1 M2 h2 M3 h3 M4 h4 M5 h5 M6 h6 M7 h7 f0 f1 f2 f3 f4 f5 f6 f7).1.2.2.1 = M6.view.writes (Elt F) M6.view.junk
    [⟨Rect.unit (s := S512x512) ![0, 0] S512x512.size inb_S512x512_S512x512_0_0, featB (M3.view.read (Elt F) f3)⟩] := by
    unfold bodyRun
    dsimp only
    unfold bodyRun.sl.H6_1
    congr 2
  rw [e]
  exact View.read_writes_full M6.view _ inb_S512x512_S512x512_0_0 _ _

/-- The flag buffer after the point. -/
theorem run_flag : (bodyRun c i M0 h0 M1 h1 M2 h2 M3 h3 M4 h4 M5 h5 M6 h6 M7 h7 f0 f1 f2 f3 f4 f5 f6 f7).1.2.2.2 = M7.view.writes (Elt F) f7
    [⟨Rect.unit (s := S16x32) (k0_off3 i) S1x32.size (k0_off3_inb i), flagB (M0.view.read (Elt F) f0) (M2.view.read (Elt F) f2) i⟩] := by
  unfold bodyRun
  dsimp only
  congr 2

end Values

end Cert.Proof
end
-- ==== Proof.TcRegion.lean ====
/-
  The TensorCore region: what its eight arrays hold when it ends.
-/
module

public import proofs.«01_k».proof.Proof.TcBody

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat)
open Idealize.ShloMosaic.SparseCore (S V T)
open Idealize.ShloMosaic.SparseCore.Cfg (HIx Pay)

variable {F : FTy → Type} [FloatOps F]

local notation "𝕄" => MM F

/-! ## The arrays the region reads, and what it leaves -/

/-- What every unscoped buffer of the TensorCore holds when the region is entered. -/
abbrev Val (F : FTy → Type) : Type := (c : Dev nD) → (b : Ref sig .tc) → Buf (Elt F) ((c : Thread nD τ).loc b)

variable (A : Val F)

abbrev aX (c : Dev nD) : Vec F S2048x4 .i32 := A c main_arg1
abbrev aXT (c : Dev nD) : Vec F S4x2048 .i32 := A c main_v0
abbrev aYT (c : Dev nD) : Vec F S4x8192 .i32 := A c main_v1
/-- The first eight feature rows: what window 3 stages. -/
def aF8 (c : Dev nD) : Vec F S8x512 .f32 := ((cfg0.win 3).blk t0_0).view.read (Elt F) (A c main_arg0)

/-- After point `t`, the selection buffer `X` holds the selections of the blocks up to `t`. -/
def SelUpTo (c : Dev nD) (t : Fin grid0.N) (X : Vec F S8192 .i32) : Prop :=
  ∀ u : Fin grid0.N, u ≤ t → ∀ j, X ((Rect.unit (s := S8192) (k0_off2 (grid0.coords u)) S512.size (k0_off2_inb _)).emb j)
    = selB (aX A c) (aYT A c) (grid0.coords u) j

/-- After point `t`, the coordinate buffer `X` holds the coordinates of the blocks up to `t`. -/
def FctUpTo (c : Dev nD) (t : Fin grid0.N) (X : Vec F S4x8192 .f32) : Prop :=
  ∀ u : Fin grid0.N, u ≤ t → ∀ j, X ((Rect.unit (s := S4x8192) (k0_off1 (grid0.coords u)) S4x512.size (k0_off1_inb _)).emb j)
    = fctB (aX A c) (aXT A c) (aYT A c) (grid0.coords u) j

/-- After point `t`, the flag buffer `X` holds the flags of the blocks up to `t`. -/
def FlagUpTo (c : Dev nD) (t : Fin grid0.N) (X : Vec F S16x32 .i32) : Prop :=
  ∀ u : Fin grid0.N, u ≤ t → ∀ j, X ((Rect.unit (s := S16x32) (k0_off3 (grid0.coords u)) S1x32.size (k0_off3_inb _)).emb j)
    = flagB (aX A c) (aYT A c) (grid0.coords u) j

/-- The proof data of the region: its arrays as found, what each staging buffer holds after a point, nothing scoped beside
    the staging buffers, and what the core owes the SparseCore launch throughout. -/
def dat (c : Dev nD) : RDat τ (Elt F) (HIx 1) ℕ UU ℕ cfg0 c where
  A w := A c (Pipeline.arrRef spec0 w)
  after w t _ := match w with
    | ⟨0, _⟩ => fun X => X = aX A c
    | ⟨1, _⟩ => fun X => X = aXT A c
    | ⟨2, _⟩ => fun X => X = aYT A c
    | ⟨3, _⟩ => fun X => X = aF8 A c
    | ⟨4, _⟩ => fun X => SelUpTo A c t X
    | ⟨5, _⟩ => fun X => FctUpTo A c t X
    | ⟨6, _⟩ => fun X => X = featB (aF8 A c)
    | ⟨7, _⟩ => fun X => FlagUpTo A c t X
  Φ _ := BI.emp
  q _ := fullShare
  owed _ := (K (F := F)).Otc c 0
  recorded _ := {p | (K (F := F)).lev (T c, p.1) p.2 ≤ 0}

/-! ## What the body finds in its input buffers -/

/-- Each step finds the points' coordinates. -/
theorem blk_read0 (c : Dev nD) (t : Fin grid0.N) (d) : (dat A c).fetched 0 t d = aX A c := by
  funext j
  refine congrArg (A c main_arg1) (funext fun a => Fin.ext ?_)
  fin_cases a
  · show 0 * 2048 + 1 * (j 0).val = (j 0).val
    omega
  · show 0 * 4 + 1 * (j 1).val = (j 1).val
    omega
/-- Each step finds the transposed points' coordinates. -/
theorem blk_read1 (c : Dev nD) (t : Fin grid0.N) (d) : (dat A c).fetched 1 t d = aXT A c := by
  funext j
  refine congrArg (A c main_v0) (funext fun a => Fin.ext ?_)
  fin_cases a
  · show 0 * 4 + 1 * (j 0).val = (j 0).val
    omega
  · show 0 * 2048 + 1 * (j 1).val = (j 1).val
    omega
/-- Each step finds the transposed queries' coordinates. -/
theorem blk_read2 (c : Dev nD) (t : Fin grid0.N) (d) : (dat A c).fetched 2 t d = aYT A c := by
  funext j
  refine congrArg (A c main_v1) (funext fun a => Fin.ext ?_)
  fin_cases a
  · show 0 * 4 + 1 * (j 0).val = (j 0).val
    omega
  · show 0 * 8192 + 1 * (j 1).val = (j 1).val
    omega
/-- Each step finds the first eight rows of the features. -/
theorem blk_read3 (c : Dev nD) (t : Fin grid0.N) (d) : (dat A c).fetched 3 t d = aF8 A c := rfl

/-- A buffer the body leaves at one contents at every point, fetched to those contents, is found at them. -/
theorem find_fixed (c : Dev nD) (w : Fin 8) (B : (cfg0.win w).block.Idx → Elt F (cfg0.win w).elt)
    (hfe : ∀ t d, (dat A c).fetched w t d = B) (haft : ∀ t Y X, (dat A c).after w t Y X → X = B)
    (hft : ∀ t : Fin cfg0.N, (cfg0.win w).fetch t = true ↔ t.val % 16 = 0) (hfl : ∀ t, (cfg0.win w).flush t = false)
    (t : Fin cfg0.N) (Y) (h : (dat A c).Finds w t Y) : Y = B := by
  by_cases h0 : (cfg0.win w).fetch t = true
  · obtain ⟨d, rfl⟩ := ((dat A c).finds_of_fetch h0 Y).1 h
    exact hfe t d
  · have ht : t.val ≠ 0 := fun e => h0 ((hft t).2 (by rw [e]))
    rcases ((dat A c).finds_of_pos (Bool.eq_false_iff.2 h0) ht Y).1 h with hh | ⟨Y', -, hh⟩
    · rw [hfl] at hh; exact absurd hh Bool.false_ne_true
    · exact haft _ _ _ hh

/-- A result buffer flushed at the last point only is found, after the first point, as the point before left it. -/
theorem find_kept (c : Dev nD) (w : Fin 8) (hft : ∀ t, (cfg0.win w).fetch t = false)
    (hfl : ∀ t : Fin cfg0.N, (cfg0.win w).flush t = true ↔ t.val % 16 = 15)
    (t : Fin cfg0.N) (ht : t.val ≠ 0) (Y) (h : (dat A c).Finds w t Y) :
    ∃ Y', (dat A c).after w ⟨t.val - 1, Nat.lt_of_le_of_lt (Nat.sub_le _ _) t.isLt⟩ Y' Y := by
  have hN : t.val < 16 := N_0 ▸ t.isLt
  rcases ((dat A c).finds_of_pos (hft t) ht Y).1 h with hh | ⟨Y', -, hh⟩
  · have := (hfl _).1 hh
    dsimp only at this
    omega
  · exact ⟨Y', hh⟩

/-! ## One point's store beside the earlier points' -/

/-- A buffer that holds the pieces of the points before `t`, with the piece of `t` stored over it, holds the pieces up
    to `t`: the pieces lie apart. -/
theorem upTo_step {sp : Space} {s : Shape} {e : EltTy} (v : View sig .tc sp s e) (f : v.ty.Contents (Elt F)) (r : Fin grid0.N → Rect s)
    (w : ∀ u, (r u).shape.Idx → Elt F e) (hd : ∀ u u', u < u' → ∀ j, (r u).emb j ∉ (r u').set) (t : Fin grid0.N)
    (hY : ∀ u, u < t → ∀ j, v.read (Elt F) f ((r u).emb j) = w u j) :
    ∀ u, u ≤ t → ∀ j, v.read (Elt F) (v.writes (Elt F) f [⟨r t, w t⟩]) ((r u).emb j) = w u j := by
  intro u hu j
  rcases lt_or_eq_of_le hu with h | rfl
  · rw [View.read_writes_cons_miss _ _ ⟨r t, w t⟩ _ _ (hd u t h j)]
    exact hY u h j
  · exact View.read_writes_cons_emb _ _ _ _ _ _

/-- Different steps write different queries' row numbers. -/
theorem apart2 (u u' : Fin grid0.N) (h : u < u') (j : S512.Idx) :
    (Rect.unit (s := S8192) (k0_off2 (grid0.coords u)) S512.size (k0_off2_inb _)).emb j
      ∉ (Rect.unit (s := S8192) (k0_off2 (grid0.coords u')) S512.size (k0_off2_inb _)).set := by
  refine Rect.not_mem_set_of_axis _ _ 0 (512 * u'.val) 512 (congrFun (off2_eq u') 0) rfl rfl (Or.inl ?_)
  have e : k0_off2 (grid0.coords u) 0 = 512 * u.val := congrFun (off2_eq u) 0
  have hj : (j 0).val < 512 := (j 0).isLt
  have hu : u.val < u'.val := h
  show k0_off2 (grid0.coords u) 0 + 1 * (j 0).val < 512 * u'.val
  omega

/-- Different steps write different queries' coordinates. -/
theorem apart1 (u u' : Fin grid0.N) (h : u < u') (j : S4x512.Idx) :
    (Rect.unit (s := S4x8192) (k0_off1 (grid0.coords u)) S4x512.size (k0_off1_inb _)).emb j
      ∉ (Rect.unit (s := S4x8192) (k0_off1 (grid0.coords u')) S4x512.size (k0_off1_inb _)).set := by
  refine Rect.not_mem_set_of_axis _ _ 1 (512 * u'.val) 512 (congrFun (off1_eq u') 1) rfl rfl (Or.inl ?_)
  have e : k0_off1 (grid0.coords u) 1 = 512 * u.val := congrFun (off1_eq u) 1
  have hj : (j 1).val < 512 := (j 1).isLt
  have hu : u.val < u'.val := h
  show k0_off1 (grid0.coords u) 1 + 1 * (j 1).val < 512 * u'.val
  omega

/-- Different steps write different rows of flags. -/
theorem apart3 (u u' : Fin grid0.N) (h : u < u') (j : S1x32.Idx) :
    (Rect.unit (s := S16x32) (k0_off3 (grid0.coords u)) S1x32.size (k0_off3_inb _)).emb j
      ∉ (Rect.unit (s := S16x32) (k0_off3 (grid0.coords u')) S1x32.size (k0_off3_inb _)).set := by
  refine Rect.not_mem_set_of_axis _ _ 0 u'.val 1 (congrFun (off3_eq u') 0) rfl rfl (Or.inl ?_)
  have e : k0_off3 (grid0.coords u) 0 = u.val := congrFun (off3_eq u) 0
  have hj : (j 0).val < 1 := (j 0).isLt
  have hu : u.val < u'.val := h
  show k0_off3 (grid0.coords u) 0 + 1 * (j 0).val < u'.val
  omega

/-! ## The body's obligation -/

set_option maxHeartbeats 1000000 in
/-- At every point the body runs from what it finds and leaves what the proof data says. -/
theorem body_obligation (c : Dev nD) : (dat A c).BodyObligation (defs₀ (F := F)) 𝒱₀ (none : HIx 1) Set.univ := by
  intro t Y hY
  have e0 := find_fixed A c 0 (aX A c) (fun t d => blk_read0 A c t d) (fun _ _ _ h => h) fetch0_0 (fun _ => rfl) t (Y 0) (hY 0)
  have e1 := find_fixed A c 1 (aXT A c) (fun t d => blk_read1 A c t d) (fun _ _ _ h => h) fetch0_1 (fun _ => rfl) t (Y 1) (hY 1)
  have e2 := find_fixed A c 2 (aYT A c) (fun t d => blk_read2 A c t d) (fun _ _ _ h => h) fetch0_2 (fun _ => rfl) t (Y 2) (hY 2)
  have e3 := find_fixed A c 3 (aF8 A c) (fun t d => blk_read3 A c t d) (fun _ _ _ h => h) fetch0_3 (fun _ => rfl) t (Y 3) (hY 3)
  have k4 : ∀ u, u < t → ∀ j, Y 4 ((Rect.unit (s := S8192) (k0_off2 (grid0.coords u)) S512.size (k0_off2_inb _)).emb j)
      = selB (aX A c) (aYT A c) (grid0.coords u) j := fun u hu j => by
    have hu' : u.val < t.val := hu
    obtain ⟨_, h⟩ := find_kept A c 4 (fun _ => rfl) flush0_4 t (by omega) (Y 4) (hY 4)
    exact h u (show u.val ≤ t.val - 1 by omega) j
  have k5 : ∀ u, u < t → ∀ j, Y 5 ((Rect.unit (s := S4x8192) (k0_off1 (grid0.coords u)) S4x512.size (k0_off1_inb _)).emb j)
      = fctB (aX A c) (aXT A c) (aYT A c) (grid0.coords u) j := fun u hu j => by
    have hu' : u.val < t.val := hu
    obtain ⟨_, h⟩ := find_kept A c 5 (fun _ => rfl) flush0_5 t (by omega) (Y 5) (hY 5)
    exact h u (show u.val ≤ t.val - 1 by omega) j
  have k7 : ∀ u, u < t → ∀ j, Y 7 ((Rect.unit (s := S16x32) (k0_off3 (grid0.coords u)) S1x32.size (k0_off3_inb _)).emb j)
      = flagB (aX A c) (aYT A c) (grid0.coords u) j := fun u hu j => by
    have hu' : u.val < t.val := hu
    obtain ⟨_, h⟩ := find_kept A c 7 (fun _ => rfl) flush0_7 t (by omega) (Y 7) (hY 7)
    exact h u (show u.val ≤ t.val - 1 by omega) j
  clear hY
  rw [bigSep_W0, bigSep_W0]
  show _ ⊢ wp frame (wpE (defs₀ (F := F)) Variants.none (c : Thread nD τ) none) Set.univ (bodyAt0 t) _
  unfold owns
  iintro ⟨HΦ, Howes, ⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%f7, %g7, H7⟩⟩
  rw [Memref.IsWhole.set_eq_univ (stage_whole0 0 _), Memref.IsWhole.set_eq_univ (stage_whole0 1 _), Memref.IsWhole.set_eq_univ (stage_whole0 2 _),
    Memref.IsWhole.set_eq_univ (stage_whole0 3 _), Memref.IsWhole.set_eq_univ (stage_whole0 4 _), Memref.IsWhole.set_eq_univ (stage_whole0 5 _),
    Memref.IsWhole.set_eq_univ (stage_whole0 6 _), Memref.IsWhole.set_eq_univ (stage_whole0 7 _)]
  iapply ((bodyRun c (grid0.coords t) _ _ _ _ _ _ _ _ _ _ _ _ _ _ _ _ f0 f1 f2 f3 f4 f5 f6 f7).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  rw [show (dat A c).Φ t.succ = (dat A c).Φ t.castSucc from rfl,
    show (dat A c).owesAt (none : HIx 1) t.succ = (dat A c).owesAt (none : HIx 1) t.castSucc from rfl]
  isplitl [HΦ]; · iexact HΦ
  isplitl [Howes]; · iexact Howes
  isplitl [H0]
  · iexists _; isplitr; swap
    · iexists _; isplitr; swap
      · iexact H0
      · ipureintro; rfl
    · ipureintro
      exact g0.trans e0
  isplitl [H1]
  · iexists _; isplitr; swap
    · iexists _; isplitr; swap
      · iexact H1
      · ipureintro; rfl
    · ipureintro
      exact g1.trans e1
  isplitl [H2]
  · iexists _; isplitr; swap
    · iexists _; isplitr; swap
      · iexact H2
      · ipureintro; rfl
    · ipureintro
      exact g2.trans e2
  isplitl [H3]
  · iexists _; isplitr; swap
    · iexists _; isplitr; swap
      · iexact H3
      · ipureintro; rfl
    · ipureintro
      exact g3.trans e3
  isplitl [H4]
  · iexists _; isplitr; swap
    · iexists _; isplitr; swap
      · iexact H4
      · ipureintro; rfl
    · ipureintro
      show SelUpTo A c t _
      rw [run_sel]
      rw [show View.read (Elt F) _ f0 = aX A c from g0.trans e0, show View.read (Elt F) _ f2 = aYT A c from g2.trans e2]
      exact upTo_step _ f4 (fun u => Rect.unit (s := S8192) (k0_off2 (grid0.coords u)) S512.size (k0_off2_inb _))
        (fun u => selB (aX A c) (aYT A c) (grid0.coords u)) apart2 t (fun u hu j => (congrFun g4 _).trans (k4 u hu j))
  isplitl [H5]
  · iexists _; isplitr; swap
    · iexists _; isplitr; swap
      · iexact H5
      · ipureintro; rfl
    · ipureintro
      show FctUpTo A c t _
      refine (congrArg (FctUpTo A c t) (congrArg (View.read (Elt F) _) (run_fct ..))).mpr ?_
      rw [show View.read (Elt F) _ f0 = aX A c from g0.trans e0, show View.read (Elt F) _ f1 = aXT A c from g1.trans e1,
        show View.read (Elt F) _ f2 = aYT A c from g2.trans e2]
      exact upTo_step _ f5 (fun u => Rect.unit (s := S4x8192) (k0_off1 (grid0.coords u)) S4x512.size (k0_off1_inb _))
        (fun u => fctB (aX A c) (aXT A c) (aYT A c) (grid0.coords u)) apart1 t (fun u hu j => (congrFun g5 _).trans (k5 u hu j))
  isplitl [H6]
  · iexists _; isplitr; swap
    · iexists _; isplitr; swap
      · iexact H6
      · ipureintro; rfl
    · ipureintro
      exact (run_feat ..).trans (congrArg featB (g3.trans e3))
  · iexists _; isplitr; swap
    · iexists _; isplitr; swap
      · iexact H7
      · ipureintro; rfl
    · ipureintro
      show FlagUpTo A c t _
      refine (congrArg (FlagUpTo A c t) (congrArg (View.read (Elt F) _) (run_flag ..))).mpr ?_
      rw [show View.read (Elt F) _ f0 = aX A c from g0.trans e0, show View.read (Elt F) _ f2 = aYT A c from g2.trans e2]
      exact upTo_step _ f7 (fun u => Rect.unit (s := S16x32) (k0_off3 (grid0.coords u)) S1x32.size (k0_off3_inb _))
        (fun u => flagB (aX A c) (aYT A c) (grid0.coords u)) apart3 t (fun u hu j => (congrFun g7 _).trans (k7 u hu j))

end Cert.Proof
end
-- ==== Proof.TcSeg.lean ====
/-
  The TensorCore region as a segment of the program: from its arrays as found to its arrays as left.
-/
module

public import proofs.«01_k».proof.Proof.TcRegion

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat)
open Idealize.ShloMosaic.SparseCore (S V T)
open Idealize.ShloMosaic.SparseCore.Cfg (HIx Pay)

variable {F : FTy → Type} [FloatOps F]

local notation "𝕄" => MM F

variable (A : Val F)

/-! ## The pieces of all points make the whole array -/

/-- After the last step every row number is written. -/
theorem sel_whole (c : Dev nD) (X : Vec F S8192 .i32) (h : SelUpTo A c t0_15 X) : X = selAll (aX A c) (aYT A c) := by
  funext r
  have hr : (r 0).val < 8192 := (r 0).isLt
  have hN : (r 0).val / 512 < grid0.N := by rw [N_0]; omega
  have h := h ⟨(r 0).val / 512, hN⟩ (show (r 0).val / 512 ≤ 15 by omega) (ix1 ⟨(r 0).val % 512, Nat.mod_lt _ (by decide)⟩)
  refine Eq.trans (congrArg X (funext fun a => Fin.ext ?_)) h
  fin_cases a
  have e : k0_off2 (grid0.coords ⟨(r 0).val / 512, hN⟩) 0 = 512 * ((r 0).val / 512) := congrFun (off2_eq ⟨(r 0).val / 512, hN⟩) 0
  show (r 0).val = k0_off2 (grid0.coords ⟨(r 0).val / 512, hN⟩) 0 + 1 * ((r 0).val % 512)
  omega

/-- After the last step all coordinates are written. -/
theorem fct_whole (c : Dev nD) (X : Vec F S4x8192 .f32) (h : FctUpTo A c t0_15 X) : X = fctAll (aX A c) (aXT A c) (aYT A c) := by
  funext r
  have hr : (r 1).val < 8192 := (r 1).isLt
  have hN : (r 1).val / 512 < grid0.N := by rw [N_0]; omega
  have h := h ⟨(r 1).val / 512, hN⟩ (show (r 1).val / 512 ≤ 15 by omega)
    (ix2 (r 0) ⟨(r 1).val % 512, Nat.mod_lt _ (by decide)⟩)
  refine Eq.trans (congrArg X (funext fun a => Fin.ext ?_)) h
  have e := off1_eq ⟨(r 1).val / 512, hN⟩
  fin_cases a
  · have e : k0_off1 (grid0.coords ⟨(r 1).val / 512, hN⟩) 0 = 0 := congrFun e 0
    show (r 0).val = k0_off1 (grid0.coords ⟨(r 1).val / 512, hN⟩) 0 + 1 * (r 0).val
    omega
  · have e : k0_off1 (grid0.coords ⟨(r 1).val / 512, hN⟩) 1 = 512 * ((r 1).val / 512) := congrFun e 1
    show (r 1).val = k0_off1 (grid0.coords ⟨(r 1).val / 512, hN⟩) 1 + 1 * ((r 1).val % 512)
    omega

/-- After the last step all flags are written. -/
theorem flag_whole (c : Dev nD) (X : Vec F S16x32 .i32) (h : FlagUpTo A c t0_15 X) : X = flagAll (aX A c) (aYT A c) := by
  funext r
  have hr : (r 0).val < 16 := (r 0).isLt
  have hN : (r 0).val < grid0.N := by rw [N_0]; omega
  have h := h ⟨(r 0).val, hN⟩ (show (r 0).val ≤ 15 by omega) (ix2 0 (r 1))
  refine Eq.trans (congrArg X (funext fun a => Fin.ext ?_)) h
  have e := off3_eq ⟨(r 0).val, hN⟩
  fin_cases a
  · have e : k0_off3 (grid0.coords ⟨(r 0).val, hN⟩) 0 = (r 0).val := congrFun e 0
    show (r 0).val = k0_off3 (grid0.coords ⟨(r 0).val, hN⟩) 0 + 1 * 0
    omega
  · have e : k0_off3 (grid0.coords ⟨(r 0).val, hN⟩) 1 = 0 := congrFun e 1
    show (r 1).val = k0_off3 (grid0.coords ⟨(r 0).val, hN⟩) 1 + 1 * (r 1).val
    omega

/-! ## What each result array may hold after the region -/

/-- A result array flushed at the last point only holds, after the region, its block there as the body left it. -/
theorem arr_last (c : Dev nD) (w : Fin 8) (hfl : ∀ t : Fin cfg0.N, (cfg0.win w).flush t = true ↔ t.val % 16 = 15)
    (Z) (h : (dat A c).ArrAt w cfg0.N Z) :
    ∃ G₀ Y X, (dat A c).after w t0_15 Y X
      ∧ Z = ((cfg0.win w).blk t0_15).view.write (Elt F) G₀ ((cfg0.win w).cut (cfg0.grid.coords t0_15) X) Finset.univ := by
  have e : (dat A c).ArrAt w (t0_15.val + 1) Z := h
  rw [RDat.ArrAt_succ, if_pos ((hfl t0_15).2 rfl)] at e
  obtain ⟨G₀, X, -, ⟨Y, -, hX⟩, rfl⟩ := e
  exact ⟨G₀, Y, X, hX, rfl⟩

/-- The row numbers the call leaves. -/
theorem arr_sel (c : Dev nD) (Z) (h : (dat A c).ArrAt 4 cfg0.N Z) : Z = selAll (aX A c) (aYT A c) := by
  obtain ⟨G₀, Y, X, hX, rfl⟩ := arr_last A c 4 flush0_4 Z h
  rw [← sel_whole A c X hX]
  funext j
  have ej : ((cfg0.win 4).blk t0_15).view.emb j = j := funext fun a => Fin.ext (by
    fin_cases a
    show 0 * 8192 + 1 * (j 0).val = (j 0).val
    omega)
  refine (congrArg _ ej.symm).trans ((View.write_emb_of_mem _ _ (Finset.mem_univ j)).trans ?_)
  rfl

/-- The coordinates the call leaves. -/
theorem arr_fct (c : Dev nD) (Z) (h : (dat A c).ArrAt 5 cfg0.N Z) : Z = fctAll (aX A c) (aXT A c) (aYT A c) := by
  obtain ⟨G₀, Y, X, hX, rfl⟩ := arr_last A c 5 flush0_5 Z h
  rw [← fct_whole A c X hX]
  funext j
  have ej : ((cfg0.win 5).blk t0_15).view.emb j = j := funext fun a => Fin.ext (by
    fin_cases a
    · show 0 * 4 + 1 * (j 0).val = (j 0).val
      omega
    · show 0 * 8192 + 1 * (j 1).val = (j 1).val
      omega)
  refine (congrArg _ ej.symm).trans ((View.write_emb_of_mem _ _ (Finset.mem_univ j)).trans ?_)
  rfl

/-- The flags the call leaves. -/
theorem arr_flag (c : Dev nD) (Z) (h : (dat A c).ArrAt 7 cfg0.N Z) : Z = flagAll (aX A c) (aYT A c) := by
  obtain ⟨G₀, Y, X, hX, rfl⟩ := arr_last A c 7 flush0_7 Z h
  rw [← flag_whole A c X hX]
  funext j
  have ej : ((cfg0.win 7).blk t0_15).view.emb j = j := funext fun a => Fin.ext (by
    fin_cases a
    · show 0 * 16 + 1 * (j 0).val = (j 0).val
      omega
    · show 0 * 32 + 1 * (j 1).val = (j 1).val
      omega)
  refine (congrArg _ ej.symm).trans ((View.write_emb_of_mem _ _ (Finset.mem_univ j)).trans ?_)
  rfl

/-- The constant feature block is feature row 0, column by column. -/
theorem featB_apply (c : Dev nD) (j : S512x512.Idx) :
    featB (aF8 A c) j = (A c main_arg0 : Vec F S2048x512 .f32) (ix2 0 (j 1)) := by
  pointwise [featB, k0_pay7]
  refine congrArg (A c main_arg0) (funext fun a => Fin.ext ?_)
  fin_cases a
  · show 0 * 8 + 1 * (0 + 1 * 0) = 0
    rfl
  · show 0 * 512 + 1 * (0 + 1 * (j 1).val) = (j 1).val
    omega

/-- Step t writes block t of the features' result. -/
theorem trans6 : ∀ t : Fin grid0.N, cc0_transform_6 (grid0.coords t) 0 = t.val := by decide

/-- After the first `n` points the rows below `512 * n` of the feature array are feature row 0. -/
theorem feat_rows (c : Dev nD) : ∀ n, n ≤ 16 → ∀ Z : Buf (Elt F) ((c : Thread nD τ).loc main_v2_2), (dat A c).ArrAt 6 n Z →
    ∀ i : S8192x512.Idx, (i 0).val < 512 * n → (Z : Vec F S8192x512 .f32) i = feat0All (A c main_arg0) i := by
  intro n
  induction n with
  | zero => intro _ Z _ i hi; exact absurd hi (by omega)
  | succ n ih =>
    intro hn Z h i hi
    have hN : n < cfg0.N := by show n < grid0.N; rw [N_0]; omega
    have e : (dat A c).ArrAt 6 ((⟨n, hN⟩ : Fin cfg0.N).val + 1) Z := h
    rw [RDat.ArrAt_succ, if_pos (flush0_6 _)] at e
    obtain ⟨G₀, X, hG, ⟨Y, -, hX⟩, rfl⟩ := e
    have hX : X = featB (aF8 A c) := hX
    subst hX
    have hi1 : (i 1).val < 512 := (i 1).isLt
    have eb : ∀ j : S512x512.Idx, (((cfg0.win 6).blk ⟨n, hN⟩).view.emb j : S8192x512.Idx) = ix2 ⟨512 * n + (j 0).val, by have : (j 0).val < 512 := (j 0).isLt; omega⟩ (j 1) :=
      fun j => funext fun a => Fin.ext (by
        fin_cases a
        · have e := trans6 ⟨n, hN⟩
          show cc0_transform_6 (grid0.coords ⟨n, hN⟩) 0 * 512 + 1 * (j 0).val = 512 * n + (j 0).val
          rw [e]
          show n * 512 + 1 * (j 0).val = 512 * n + (j 0).val
          omega
        · show 0 * 512 + 1 * (j 1).val = (j 1).val
          omega)
    by_cases hlt : (i 0).val < 512 * n
    · refine Eq.trans (View.write_of_not_mem _ _ _ ?_) (ih (by omega) G₀ hG i hlt)
      intro hmem
      obtain ⟨j, -, hj⟩ := Finset.mem_map.mp hmem
      have hv : 512 * n + (j 0).val = (i 0).val := congrArg (fun q : S8192x512.Idx => (q 0).val) ((eb j).symm.trans hj)
      omega
    · have ej : ((cfg0.win 6).blk ⟨n, hN⟩).view.emb (ix2 ⟨(i 0).val - 512 * n, by omega⟩ (i 1) : S512x512.Idx) = i := by
        refine (eb _).trans (funext fun a => Fin.ext ?_)
        fin_cases a
        · show 512 * n + ((i 0).val - 512 * n) = (i 0).val
          omega
        · rfl
      refine (congrArg _ ej.symm).trans ((View.write_emb_of_mem _ _ (Finset.mem_univ _)).trans ?_)
      exact featB_apply A c (ix2 ⟨(i 0).val - 512 * n, by omega⟩ (i 1))

/-- The features the call leaves: row 0 everywhere. -/
theorem arr_feat (c : Dev nD) (Z) (h : (dat A c).ArrAt 6 cfg0.N Z) : Z = feat0All (A c main_arg0) :=
  funext fun i => feat_rows A c 16 le_rfl Z h i (i 0).isLt

/-! ## The segment -/

/-- The TensorCore's buffers when the region is entered: every unscoped buffer at `A`, and the core owing the SparseCore
    launch only. -/
def regPre (c : Dev nD) : sProp 𝕄 :=
  iprop(unscopedBufs c (A c) ∗ ∃ W, ⌜(K (F := F)).WBelow (T c) W 0⌝ ∗ owes (T c) ((K (F := F)).Otc c 0) W)

/-- And when it is left: the four result arrays at the region's results, the rest as it was. -/
def regPost (c : Dev nD) : sProp 𝕄 :=
  iprop((((c : Thread nD τ).loc main_arg1) ↦{fullShare} A c main_arg1) ∗ (((c : Thread nD τ).loc main_v0) ↦{fullShare} A c main_v0)
    ∗ (((c : Thread nD τ).loc main_v1) ↦{fullShare} A c main_v1) ∗ (((c : Thread nD τ).loc main_arg0) ↦{fullShare} A c main_arg0)
    ∗ (((c : Thread nD τ).loc main_v2_0) ↦{fullShare} (selAll (aX A c) (aYT A c) : Vec F S8192 .i32))
    ∗ (((c : Thread nD τ).loc main_v2_1) ↦{fullShare} (fctAll (aX A c) (aXT A c) (aYT A c) : Vec F S4x8192 .f32))
    ∗ (((c : Thread nD τ).loc main_v2_2) ↦{fullShare} (feat0All (A c main_arg0) : Vec F S8192x512 .f32))
    ∗ (((c : Thread nD τ).loc main_v2_3) ↦{fullShare} (flagAll (aX A c) (aYT A c) : Vec F S16x32 .i32))
    ∗ (((c : Thread nD τ).loc main_arg2) ↦{fullShare} A c main_arg2) ∗ (((c : Thread nD τ).loc main_v3) ↦{fullShare} A c main_v3)
    ∗ (((c : Thread nD τ).loc main_v4) ↦{fullShare} A c main_v4)
    ∗ ∃ W, ⌜(K (F := F)).WBelow (T c) W 0⌝ ∗ owes (T c) ((K (F := F)).Otc c 0) W)

variable (adm : (p : Fin 1) → (pcfgs (F := F) p).Adm)

/-- The proof data, pipeline by pipeline: there is one. -/
def rdats : (p : Fin 1) → (c : Dev nD) → RDat τ (Elt F) (HIx 1) ℕ UU ℕ (Pipeline.pin (pcfgs (F := F)) adm p) c
  | ⟨0, _⟩ => fun c => dat A c

/-- The call holds its arrays whole. -/
theorem share_full (c : Dev nD) (w : Fin 8) : (dat A c).share w = fullShare := by
  unfold RDat.share; split <;> rfl

/-- Below the launch the core owes nothing at a transfer's own index. -/
theorem otc_none (c : Dev nD) (g : GSem nD τ sig) : (K (F := F)).Otc c 0 g none = 0 := by
  by_contra h
  have := SparseCore.Cfg.lev_of_Otc_pos (Nat.pos_of_ne_zero h)
  rw [SparseCore.Cfg.lev_none] at this
  omega

/-- Out of the region's exit state, the buffers it leaves. -/
theorem regExit (c : Dev nD) :
    iprop((dat A c).arraysAt cfg0.N ∗ (dat A c).owesAt (none : HIx 1) (Fin.last cfg0.N) ∗ BI.emp
        ∗ Pipeline.unscopedRest (Ix := HIx 1) (Name := ℕ) (U := UU) (Lvl := ℕ) spec0 c (A c))
      ⊢ |={Set.univ}=> regPost A c := by
  unfold RDat.arraysAt
  rw [bigSep_W0, unscopedRest0_eq]
  simp only [share_full]
  rw [Memref.IsWhole.set_eq_univ (arr_whole0 0), Memref.IsWhole.set_eq_univ (arr_whole0 1), Memref.IsWhole.set_eq_univ (arr_whole0 2),
    Memref.IsWhole.set_eq_univ (arr_whole0 3), Memref.IsWhole.set_eq_univ (arr_whole0 4), Memref.IsWhole.set_eq_univ (arr_whole0 5),
    Memref.IsWhole.set_eq_univ (arr_whole0 6), Memref.IsWhole.set_eq_univ (arr_whole0 7)]
  iintro ⟨⟨⟨%G0, %h0, H0⟩, ⟨%G1, %h1, H1⟩, ⟨%G2, %h2, H2⟩, ⟨%G3, %h3, H3⟩, ⟨%G4, %h4, H4⟩, ⟨%G5, %h5, H5⟩, ⟨%G6, %h6, H6⟩, ⟨%G7, %h7, H7⟩⟩, HO, -, R0, R1, R2⟩
  rw [(dat A c).ArrAt_in 0 rfl] at h0
  rw [(dat A c).ArrAt_in 1 rfl] at h1
  rw [(dat A c).ArrAt_in 2 rfl] at h2
  rw [(dat A c).ArrAt_in 3 rfl] at h3
  have h4 := arr_sel A c G4 h4
  have h5 := arr_fct A c G5 h5
  have h6 := arr_feat A c G6 h6
  have h7 := arr_flag A c G7 h7
  subst h0 h1 h2 h3 h4 h5 h6 h7
  imodintro
  unfold regPost
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [R0]; · iexact R0
  isplitl [R1]; · iexact R1
  isplitl [R2]; · iexact R2
  unfold RDat.owesAt Pipeline.owesWithin
  icases HO with ⟨%W, %hW, HO⟩
  iexists W
  isplitr; swap; · iexact HO
  ipureintro
  intro p hp
  rcases hW hp with h | ⟨w, s, h⟩
  · exact h
  · subst h
    exact (K (F := F)).lev_none _ |>.le

set_option backward.isDefEq.respectTransparency.types false in
/-- The region over the TensorCore's thread state. -/
def seg : RDat.RegionSeg (pcfgs (F := F)) adm (rdats A adm) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := body_obligation A c
  hwaits c := RDat.cellsWaits_intro _ (rdats A adm) (none : HIx 1) 0 c fun w s t =>
    (K (F := F)).mayWait_none _ (otc_none c)
  pre c := regPre A c
  post c := regPost A c
  X _ := BI.emp
  Y _ := BI.emp
  Z c := Pipeline.unscopedRest (Ix := HIx 1) (Name := ℕ) (U := UU) (Lvl := ℕ) spec0 c (A c)
  hentry c := by
    rw [Pipeline.ownSems0_none]
    have hsplit := RDat.arrays_of_unscopedBufs (p := 0) (pcfgs (F := F)) adm (rdats A adm) (launch0).win (launch0).arr_whole c
      (share_full A c) (A c) fun _ => rfl
    unfold regPre
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, %hW, HO⟩; iexists W; isplitr; · ipureintro; exact fun p hp => Or.inl (hW p hp)
      iexact HO
    isplitr; · iempintro
    iexact Hrest
  hin c := by
    rw [show (rdats A adm 0 c).Φ 0 = BI.emp from rfl]
    iintro -; iempintro
  hout c := by
    rw [Pipeline.ownSems0_none]
    iintro -
    isplitr; · iempintro
    isplitr; · iempintro
    rw [show Pipeline.scopedRest (Pipeline.pin (pcfgs (F := F)) adm 0).spec c = _ from scopedRest0_eq c]
    iempintro
  hexit c := regExit A c

end Cert.Proof
end
-- ==== Proof.ScLaunch.lean ====
/-
  The SparseCore call: what it hands each vector subcore and takes back, and the obligation of the task.
-/
module

public import proofs.«01_k».proof.Proof.ScTask
public import proofs.«01_k».proof.Proof.TcSeg
public import Idealize.ShloMosaic.Lib.SparseCore.Stream
public import Idealize.ShloMosaic.Lib.Pipeline.Kit

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The buffers and what they hold at the call -/

abbrev xLoc (d : Dev nD) : Loc nD τ sig := (SparseCore.T d).loc main_arg0
abbrev selLoc (d : Dev nD) : Loc nD τ sig := (SparseCore.T d).loc main_v2_0
abbrev flagLoc (d : Dev nD) : Loc nD τ sig := (SparseCore.T d).loc main_v2_3
abbrev outLoc (d : Dev nD) : Loc nD τ sig := (SparseCore.T d).loc main_v3

variable (m : (ℓ : Loc nD τ sig) → Buf (Elt F) ℓ)

/-- The feature table at launch. -/
abbrev featM (d : Dev nD) : Vec F S2048x512 .f32 := m (xLoc d)
/-- The stored coordinates at launch. -/
abbrev coordM (d : Dev nD) : Vec F S2048x4 .i32 := m ((SparseCore.T d).loc main_arg1)
/-- The stored coordinates, transposed. -/
abbrev coordT (d : Dev nD) : Vec F S4x2048 .i32 := transpose S4x2048 [1, 0] (coordM m d) transposes_S2048x4_S4x2048_1_0
/-- The query coordinates, transposed. -/
abbrev queryT (d : Dev nD) : Vec F S4x8192 .i32 :=
  transpose S4x8192 [1, 0] (m ((SparseCore.T d).loc main_arg2) : Vec F S8192x4 .i32) transposes_S8192x4_S4x8192_1_0
/-- The selected rows. -/
abbrev selVal (d : Dev nD) : Vec F S8192 .i32 := selAll (coordM m d) (queryT m d)
/-- The flags. -/
abbrev flagVal (d : Dev nD) : Vec F S16x32 .i32 := flagAll (coordM m d) (queryT m d)
/-- The features before the call: row 0 of the table, everywhere. -/
abbrev out0 (d : Dev nD) : Vec F S8192x512 .f32 := feat0All (featM m d)
/-- The features after the call. -/
def outVal (d : Dev nD) : Vec F S8192x512 .f32 := fun r =>
  tileVal (featM m d) (selOf (selVal m d) ⟨(r 0).val / 512, by have : (r 0).val < 8192 := (r 0).isLt; omega⟩)
    (flOf (flagVal m d) ⟨(r 0).val / 512, by have : (r 0).val < 8192 := (r 0).isLt; omega⟩) (out0 m d) ((r 0).val / 512) 32 r

/-- On a tile's rows, the features' result is what that tile leaves. -/
theorem outVal_tile (d : Dev nD) (b : Fin 16) (r : S8192x512.Idx) (hr : r ∈ tileRows b.val) :
    tileVal (featM m d) (selOf (selVal m d) b) (flOf (flagVal m d) b) (out0 m d) b.val 32 r = outVal m d r := by
  have h : (r 0).val / 512 = b.val := (Finset.mem_filter.mp hr).2
  have hb : b = ⟨(r 0).val / 512, by have : (r 0).val < 8192 := (r 0).isLt; omega⟩ := Fin.ext h.symm
  unfold outVal
  rw [hb]

/-! ## What the handshakes carry -/

/-- One of sixteen equal shares. -/
abbrev sh (b : Fin 16) : PosShare TreeShare := pieceOf fullShare 16 (by decide) b

abbrev xPts (d : Dev nD) : sProp 𝕄 := xLoc d ↦{fullShare} featM m d
abbrev selPts (d : Dev nD) : sProp 𝕄 := selLoc d ↦{fullShare} selVal m d
abbrev flagPts (d : Dev nD) : sProp 𝕄 := flagLoc d ↦{fullShare} flagVal m d
abbrev outPts (d : Dev nD) (f : Vec F S8192x512 .f32) : sProp 𝕄 := outLoc d ↦{fullShare} f
abbrev xSh (d : Dev nD) (b : Fin 16) : sProp 𝕄 := xLoc d ↦{sh b} featM m d
abbrev selSh (d : Dev nD) (b : Fin 16) : sProp 𝕄 := selLoc d ↦{sh b} selVal m d
abbrev flagSh (d : Dev nD) (b : Fin 16) : sProp 𝕄 := flagLoc d ↦{sh b} flagVal m d
abbrev outRows (d : Dev nD) (b : Fin 16) (f : Vec F S8192x512 .f32) : sProp 𝕄 := outLoc d ↦[tileRows b.val]{fullShare} f

/-- The call takes the table, the selected rows, the flags and the features whole; each task a share of the first three
    and its rows of the features, which it brings back final. -/
def P : (K (F := F)).Pay (nD := nD) (Val := Elt F) (Name := ℕ) (U := UU) where
  st := fun q d _ => match q with | 0 => iprop(xPts m d ∗ selPts m d ∗ flagPts m d ∗ outPts d (out0 m d))
  dn := fun q d _ => match q with | 0 => iprop(xPts m d ∗ selPts m d ∗ flagPts m d ∗ outPts d (outVal m d))
  go := fun q d _ i => match q with
    | 0 => iprop(xSh m d (Fin.cast nSub_zero i) ∗ selSh m d (Fin.cast nSub_zero i) ∗ flagSh m d (Fin.cast nSub_zero i)
        ∗ outRows d (Fin.cast nSub_zero i) (out0 m d))
  td := fun q d _ i => match q with
    | 0 => iprop(xSh m d (Fin.cast nSub_zero i) ∗ selSh m d (Fin.cast nSub_zero i) ∗ flagSh m d (Fin.cast nSub_zero i)
        ∗ outRows d (Fin.cast nSub_zero i) (outVal m d))
  x := fun _ _ => iprop(emp)

/-- The assertions handed over at the launch can be stored in a semaphore. -/
instance P_storable : (P (F := F) m).IsStorable where
  st q d _ := match q with
    | 0 => (inferInstance : BI.Storable (upEmb : UEmb _ 𝕄) iprop(xPts m d ∗ selPts m d ∗ flagPts m d ∗ outPts d (out0 m d)))
  dn q d _ := match q with
    | 0 => (inferInstance : BI.Storable (upEmb : UEmb _ 𝕄) iprop(xPts m d ∗ selPts m d ∗ flagPts m d ∗ outPts d (outVal m d)))
  go q d _ i := match q with
    | 0 => (inferInstance : BI.Storable (upEmb : UEmb _ 𝕄) iprop(xSh m d (Fin.cast nSub_zero i) ∗ selSh m d (Fin.cast nSub_zero i)
      ∗ flagSh m d (Fin.cast nSub_zero i) ∗ outRows d (Fin.cast nSub_zero i) (out0 m d)))
  td q d _ i := match q with
    | 0 => (inferInstance : BI.Storable (upEmb : UEmb _ 𝕄) iprop(xSh m d (Fin.cast nSub_zero i) ∗ selSh m d (Fin.cast nSub_zero i)
      ∗ flagSh m d (Fin.cast nSub_zero i) ∗ outRows d (Fin.cast nSub_zero i) (outVal m d)))

/-! ## The subcore's own buffers and semaphores -/

section Tile

variable (d : Dev nD) (i : grid1.Coords)

abbrev cellAt (s : DmaSem sig) : GSem nD τ sig := (tV d i, .dma s)

/-- Different semaphores of a tile are different. -/
theorem cellAt_ne {s s' : DmaSem sig} (h : s ≠ s') : cellAt d i s ≠ cellAt d i s' := fun e => h (by
  have := congrArg Prod.snd e
  injection this)

/-- A tile's semaphores are its two DMA semaphores and the two of its synchronous copies, at zero, and the rest. -/
theorem ownSems0_tile :
    (ownSems0 (tV d i) : sProp 𝕄)
      = iprop(semVal (cellAt d i cc1_scratch3.sem) 0 ∗ semVal (cellAt d i cc1_scratch4.sem) 0
          ∗ semVal (cellAt d i cc1_scoped0.sem) 0 ∗ semVal (cellAt d i cc1_scoped1.sem) 0
          ∗ bigSep (((((ownCells (tV d i)).erase (cellAt d i cc1_scratch3.sem)).erase (cellAt d i cc1_scratch4.sem)).erase
              (cellAt d i cc1_scoped0.sem)).erase (cellAt d i cc1_scoped1.sem)) fun g => semVal g 0) := by
  have hs : ∀ s : DmaSem sig, (SemLoc.dma s : SemLoc sig).isScoped .scVector = true → cellAt d i s ∈ ownCells (tV d i) :=
    fun s h => (mem_ownCells (g := cellAt d i s)).mpr ⟨rfl, h⟩
  unfold SparseCore.Cfg.ownSems0
  rw [SparseCore.bigSep_erase' (hs cc1_scratch3.sem (by decide)),
    SparseCore.bigSep_erase' (Finset.mem_erase.mpr ⟨cellAt_ne d i (by decide), hs cc1_scratch4.sem (by decide)⟩),
    SparseCore.bigSep_erase' (Finset.mem_erase.mpr ⟨cellAt_ne d i (by decide), Finset.mem_erase.mpr ⟨cellAt_ne d i (by decide), hs cc1_scoped0.sem (by decide)⟩⟩),
    SparseCore.bigSep_erase' (Finset.mem_erase.mpr ⟨cellAt_ne d i (by decide), Finset.mem_erase.mpr ⟨cellAt_ne d i (by decide),
      Finset.mem_erase.mpr ⟨cellAt_ne d i (by decide), hs cc1_scoped1.sem (by decide)⟩⟩⟩)]

abbrev refAt (b : Ref sig .scVector) : DevRef τ sig := (Proc.scVector (cV i) (jV i)).devRef b

/-- Different buffers of a tile are different. -/
theorem refAt_ne {b b' : Ref sig .scVector} (h : b ≠ b') : refAt i b ≠ refAt i b' := fun e => h (Proc.devRef_injective _ e)

/-- A tile's buffers are its list, its flags and its staging buffer, and the rest. -/
theorem ownBufs_tile :
    (ownBufs (tV d i) : sProp 𝕄)
      = iprop((∃ f, (idxM).view.loc (tV d i) ↦{fullShare} f) ∗ (∃ f, (flgM).view.loc (tV d i) ↦{fullShare} f)
          ∗ (∃ f, (gM).view.loc (tV d i) ↦{fullShare} f)
          ∗ bigSep ((((ownRefs (τ := τ) (.scVector (cV i) (jV i))).erase (refAt i cc1_scratch0)).erase (refAt i cc1_scratch1)).erase
              (refAt i cc1_scratch2)) fun b => iprop(∃ f, ((d, b) : Loc nD τ sig) ↦{fullShare} f)) := by
  have hs : ∀ b : Ref sig .scVector, (refAt i b).owner = .proc (.scVector (cV i) (jV i)) → refAt i b ∈ ownRefs (τ := τ) (.scVector (cV i) (jV i)) :=
    fun b h => SparseCore.Cfg.mem_ownRefs_of_owner (p := Proc.scVector (cV i) (jV i)) (b := refAt i b) h
  unfold SparseCore.Cfg.ownBufs
  refine (SparseCore.bigSep_erase' (hs cc1_scratch0 rfl)).trans ?_
  rw [SparseCore.bigSep_erase' (Finset.mem_erase.mpr ⟨refAt_ne i (by decide), hs cc1_scratch1 rfl⟩),
    SparseCore.bigSep_erase' (Finset.mem_erase.mpr ⟨refAt_ne i (by decide), Finset.mem_erase.mpr ⟨refAt_ne i (by decide), hs cc1_scratch2 rfl⟩⟩)]

/-! ## The task's obligation -/

abbrev tb (i : grid1.Coords) : Fin 16 := ⟨(i 1).val, lt16 i⟩

/-- A tile's task: from its shares of the inputs and its rows of the result to the same shares and the rows' new contents. -/
theorem tile_body (hsel : ∀ r : S8192.Idx, (selVal m d r : BitVec 32).toNat < 2048) (O : CellTallies nD τ sig (HIx 1)) (W : Waits sig (HIx 1))
    (hO : ∀ g, O g none = 0) :
    (iprop(levAts (K (F := F)).L (K (F := F)).lev ∗ emp
        ∗ (xSh m d (tb i) ∗ selSh m d (tb i) ∗ flagSh m d (tb i) ∗ outRows d (tb i) (out0 m d))
        ∗ scopedBufs (tV d i) ∗ scopedSems0 (tV d i) ∗ owes (tV d i) O W) : sProp 𝕄)
      ⊢ wp frame (wpE (defs₀ (F := F)) 𝒱₀ (tV d i) none) Set.univ (taskP i)
          fun _ => iprop((xSh m d (tb i) ∗ selSh m d (tb i) ∗ flagSh m d (tb i) ∗ outRows d (tb i) (outVal m d))
            ∗ scopedBufs (tV d i) ∗ scopedSems0 (tV d i)
            ∗ ∃ W', ⌜∀ p ∈ W', p ∈ W ∨ p.2 = none⌝ ∗ owes (tV d i) O W') := by
  rw [(K (F := F)).scopedBufs_V facts d (cV i) (jV i), SparseCore.Cfg.scopedSems0_V (Val := Elt F) d (cV i) (jV i), ownSems0_tile, ownBufs_tile]
  iintro ⟨#Hlv, -, ⟨Hx, Hsel, Hfl, Ho⟩, ⟨⟨%fi, Hi⟩, ⟨%fl, Hf⟩, ⟨%fg, Hg⟩, Hbufs⟩, ⟨Hs, Hs', Hc, Hc', Hsems⟩, HO⟩
  ihave Hmw := (show levAts (K (F := F)).L (K (F := F)).lev ⊢ Transfers.MayWaits (tV d i) (default : HIx 1) O from
    (K (F := F)).mayWaits_none (thr := tV d i) hO) $$ Hlv
  iapply (wp_wand_r frame _)
  isplitl [Hx Hsel Hfl Ho Hi Hf Hg Hs Hs' Hc Hc' HO Hmw]
  · iapply (task_wp d i (sh (tb i)) (sh (tb i)) (sh (tb i)) (featM m d) (selVal m d) (flagVal m d) fi fl fg (out0 m d) hsel O W)
    isplitl [Hx]; · iexact Hx
    isplitl [Hsel]; · iexact Hsel
    isplitl [Hfl]; · iexact Hfl
    isplitl [Ho]; · iexact Ho
    isplitl [Hi]; · iexact Hi
    isplitl [Hf]; · iexact Hf
    isplitl [Hg]; · iexact Hg
    isplitl [Hs]; · iexact Hs
    isplitl [Hs']; · iexact Hs'
    isplitl [Hc]; · iexact Hc
    isplitl [Hc']; · iexact Hc'
    isplitl [Hmw]; · iexact Hmw
    iexact HO
  iintro %a ⟨Hx, Hsel, Hfl, Ho, Hi, Hf, Hg, Hs, Hs', Hc, Hc', HO⟩
  isplitl [Hx Hsel Hfl Ho]
  · isplitl [Hx]; · iexact Hx
    isplitl [Hsel]; · iexact Hsel
    isplitl [Hfl]; · iexact Hfl
    iapply (Entails.of_eq (pointsTo_congr (ℓ := outLoc d) (fun r hr => outVal_tile m d (tb i) r hr)))
    iexact Ho
  isplitl [Hi Hf Hg Hbufs]
  · isplitl [Hi]; · iexact Hi
    isplitl [Hf]; · iexact Hf
    isplitl [Hg]; · iexact Hg
    iexact Hbufs
  isplitl [Hs Hs' Hc Hc' Hsems]
  · isplitl [Hs]; · iexact Hs
    isplitl [Hs']; · iexact Hs'
    isplitl [Hc]; · iexact Hc
    isplitl [Hc']; · iexact Hc'
    iexact Hsems
  iexact HO

end Tile

/-- Grid coordinates from a core and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- A tile's label runs the printed kernel body. -/
theorem defs₀_vector (c : Fin τ.nSC) (s : Fin τ.nSub) :
    defs₀ (F := F) (.scVector c s) 1 () = SparseCore.onTile hcore1 hsub1 (fun c s => taskP (coordsV c s)) ⟨⟩ c s := by
  have e : (fun c s => taskP (F := F) (coordsV c s)) = fun c s => _ := funext fun c => funext fun s => (cc1_eq (coordsV c s)).symm
  rw [e]
  rfl

/-- What a task leaves, with its part of the result regrouped. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile's task meets what the launch asks of it. -/
theorem tileObl (hsel : ∀ d (r : S8192.Idx), (selVal m d r : BitVec 32).toNat < 2048) :
    (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (hsel d) O W hO).trans (wp_mono frame _ _ fun _ => obl_post)

/-! ## The split into tasks and the join -/

/-- Different tiles have different rows of the result. -/
theorem tileRows_disjoint : ∀ i ∈ (Finset.univ : Finset (Fin 16)), ∀ j ∈ (Finset.univ : Finset (Fin 16)), i ≠ j →
    Disjoint (tileRows i.val) (tileRows j.val) := fun i _ j _ h => by
  refine Finset.disjoint_left.mpr fun r h1 h2 => h (Fin.ext ?_)
  exact (Finset.mem_filter.mp h1).2.symm.trans (Finset.mem_filter.mp h2).2

/-- The tiles have all rows of the result between them. -/
theorem tileRows_cover : ((Finset.univ : Finset (Fin 16)).biUnion fun i => tileRows i.val) = Finset.univ := by
  refine Finset.eq_univ_of_forall fun r => Finset.mem_biUnion.mpr ?_
  have hr : (r 0).val < 8192 := (r 0).isLt
  exact ⟨⟨(r 0).val / 512, by omega⟩, Finset.mem_univ _, Finset.mem_filter.mpr ⟨Finset.mem_univ _, rfl⟩⟩

/-- The result array is the tiles' rows of it. -/
theorem outPts_rows (d : Dev nD) (f : Vec F S8192x512 .f32) :
    (outPts d f : sProp 𝕄) = bigSep Finset.univ fun i : Fin 16 => outRows d i f := by
  unfold outPts outRows
  rw [← pointsTo_biUnion Finset.univ (ℓ := outLoc d) (fun i : Fin 16 => tileRows i.val) tileRows_disjoint, tileRows_cover]

/-- A product over the tasks is one over the tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A buffer held whole is sixteen equal shares of it. -/
theorem pts_shares (ℓ : Loc nD τ sig) (f : Buf (Elt F) ℓ) : (ℓ ↦{fullShare} f : sProp 𝕄) = bigSep Finset.univ fun b : Fin 16 => ℓ ↦{sh b} f :=
  pointsTo_piecesOf Finset.univ f (by decide) fullShare

/-- The whole arrays are the tasks' portions together. -/
theorem tasks_split (d : Dev nD) (f : Vec F S8192x512 .f32) :
    (bigSep Finset.univ fun i : Fin ((K (F := F)).nSub 0) => iprop(xSh m d (Fin.cast nSub_zero i) ∗ selSh m d (Fin.cast nSub_zero i)
      ∗ flagSh m d (Fin.cast nSub_zero i) ∗ outRows d (Fin.cast nSub_zero i) f))
      = (iprop(xPts m d ∗ selPts m d ∗ flagPts m d ∗ outPts d f) : sProp 𝕄) := by
  rw [bigSep_tasks (F := F) (fun i => iprop(xSh m d i ∗ selSh m d i ∗ flagSh m d i ∗ outRows d i f)), bigSep_sep', bigSep_sep', bigSep_sep',
    outPts_rows]
  unfold xPts selPts flagPts xSh selSh flagSh
  rw [pts_shares (xLoc d) (featM m d), pts_shares (selLoc d) (selVal m d), pts_shares (flagLoc d) (flagVal m d)]

/-- The launch deals the arrays out to the tiles, and gathers them in again. -/
theorem vecSplit : (K (F := F)).VecSplit' (P m) 0 := by
  intro d c
  show iprop(xPts m d ∗ selPts m d ∗ flagPts m d ∗ outPts d (out0 m d)) ⊢ |={Set.univ}=> iprop(
      (bigSep Finset.univ fun i : Fin ((K (F := F)).nSub 0) => iprop(xSh m d (Fin.cast nSub_zero i) ∗ selSh m d (Fin.cast nSub_zero i)
        ∗ flagSh m d (Fin.cast nSub_zero i) ∗ outRows d (Fin.cast nSub_zero i) (out0 m d)))
      ∗ ((bigSep Finset.univ fun i : Fin ((K (F := F)).nSub 0) => iprop(xSh m d (Fin.cast nSub_zero i) ∗ selSh m d (Fin.cast nSub_zero i)
        ∗ flagSh m d (Fin.cast nSub_zero i) ∗ outRows d (Fin.cast nSub_zero i) (outVal m d)))
          -∗ iprop(xPts m d ∗ selPts m d ∗ flagPts m d ∗ outPts d (outVal m d))))
  rw [tasks_split, tasks_split]
  iintro H; imodintro
  isplitl [H]; · iexact H
  iintro H; iexact H

end Cert.Proof

end
-- ==== Proof.ScMain.lean ====
/-
  @main on the TensorCore, and the whole program's run.
-/
module

public import proofs.«01_k».proof.Proof.ScLaunch
public import Idealize.ShloMosaic.Lib.SparseCore.Quiescent
public import Idealize.ShloMosaic.Lib.SparseCore.Ops
public import Idealize.ShloMosaic.Lib.StableHlo.Run
public import Idealize.ShloMosaic.Lib.Pipeline.Sound

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MM F

variable (m : (ℓ : Loc nD τ sig) → Buf (Elt F) ℓ) (ρ : Dev nD → PrngReg)

/-! ## A host operation of one operand -/

include m in
/-- A host operation `y := g x`. -/
theorem wp_unary {Λ : Labels} (defs : Defs nD τ sig (Elt F) Λ) (𝒲 : Variants) (d : Dev nD) (x y : Ref sig .tc) (hxy : x ≠ y)
    (g : x.ty.Contents (Elt F) → y.ty.Contents (Elt F)) (hx : x.space ≠ .host ∧ (Proc.devRef (τ := τ) .tc x).isScoped = false)
    (hy : y.space ≠ .host ∧ (Proc.devRef (τ := τ) .tc y).isScoped = false) (fx : Buf (Elt F) ((SparseCore.T d).loc x))
    (fy : Buf (Elt F) ((SparseCore.T d).loc y)) (Q : PUnit → sProp 𝕄) :
    (iprop(boundary (SparseCore.T d) ∗ ((SparseCore.T d).loc x ↦{fullShare} fx) ∗ ((SparseCore.T d).loc y ↦{fullShare} fy)
        ∗ ((boundary (SparseCore.T d) ∗ ((SparseCore.T d).loc x ↦{fullShare} fx) ∗ ((SparseCore.T d).loc y ↦{fullShare} g fx)) -∗ Q ⟨⟩)) : sProp 𝕄)
      ⊢ wp frame (wpE defs 𝒲 (SparseCore.T d) none) Set.univ (hlo rfl (StableHlo.unary x y g hx hy) fun _ => .ret ⟨⟩) Q := by
  let V₀ : Valuation τ sig (Elt F) := Function.update (Function.update (fun b => m (d, b)) (Proc.devRef (τ := τ) .tc y) fy) (Proc.devRef (τ := τ) .tc x) fx
  have hne := StableHlo.devRef_ne_of_ne (τ := τ) hxy
  have hVx : V₀ (Proc.devRef (τ := τ) .tc x) = fx := Function.update_self ..
  have hVy : V₀ (Proc.devRef (τ := τ) .tc y) = fy := (Function.update_of_ne hne.symm ..).trans (Function.update_self ..)
  have hRx : (StableHlo.unary (Val := Elt F) (τ := τ) x y g hx hy).result V₀ (Proc.devRef (τ := τ) .tc x) = fx :=
    (StableHlo.unary_result_ne (τ := τ) (y := y) (x := x) (f := g) (hx := hx) (hy := hy) (F := V₀) hxy).trans hVx
  have hRy : (StableHlo.unary (Val := Elt F) (τ := τ) x y g hx hy).result V₀ (Proc.devRef (τ := τ) .tc y) = g fx := by
    refine (HloOp.result_of_mem _ V₀ (Finset.mem_singleton_self _)).trans ?_
    show cast rfl (g (V₀ (Proc.devRef (τ := τ) .tc x))) = _
    exact congrArg g hVx
  have hbufs : ∀ W : Valuation τ sig (Elt F), (bigSep (StableHlo.unary (Val := Elt F) (τ := τ) x y g hx hy).bufs (fun b => (((SparseCore.T d).1, b) : Loc nD τ sig) ↦{fullShare} W b) : sProp 𝕄)
      = iprop(((SparseCore.T d).loc x ↦{fullShare} W (Proc.devRef (τ := τ) .tc x)) ∗ ((SparseCore.T d).loc y ↦{fullShare} W (Proc.devRef (τ := τ) .tc y))) := fun W => by
    show bigSep {(Proc.devRef (τ := τ) .tc x), (Proc.devRef (τ := τ) .tc y)} _ = _
    rw [SparseCore.bigSep_insert' (by simpa using hne), bigSep_singleton]
  iintro ⟨Hb, Hx, Hy, HQ⟩
  iapply (wp_hlo 𝒲 (SparseCore.T d) none Set.univ (op := StableHlo.unary x y g hx hy) (q := fun _ => fullShare) (F := V₀) (fun _ _ => rfl) rfl) $$ [Hb Hx Hy]
  · isplitl [Hb]; · iexact Hb
    rw [hbufs, hVx, hVy]
    isplitl [Hx]; · iexact Hx
    iexact Hy
  rw [hbufs, hRx, hRy]
  iintro H
  rw [wp_ret]
  imodintro
  iapply HQ
  iexact H

/-! ## The TensorCore region inside @main -/

/-- The pipeline has no tables to admit. -/
abbrev adm : (p : Fin 1) → (pcfgs (F := F) p).Adm := fun p => (cfgs p).toPCfg_adm

/-- The region's ghost state on a core. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The region, run at the pipeline's level. -/
theorem region_wp₀ [∀ e, Nonempty (Elt F e)] (A : Val F) (d : Dev nD) (Q : PUnit → sProp 𝕄) :
    (iprop(boundary (SparseCore.T d) ∗ regPre A d ∗ levAts (K (F := F)).L (K (F := F)).lev ∗ G d
        ∗ ((boundary (SparseCore.T d) ∗ regPost A d) -∗ Q ⟨⟩)) : sProp 𝕄)
      ⊢ wp frame (wpE (D (F := F)) 𝒱 (SparseCore.T d) none) Set.univ
          (.op (.customCall (Pipeline.entry 0) ()) fun _ => .ret ⟨⟩) Q := by
  have h := Pipeline.RDat.RegionSeg.wp (pcfgs (F := F)) adm (rdats A adm) (none : HIx 1) cellOf_inj EP defs₀ 𝒱₀
    (K (F := F)).L (K (F := F)).lev (seg A adm) d none (fun u hu => nomatch hu) (fun _ => .ret PUnit.unit) Q
  refine BI.Entails.trans ?_ h
  change (iprop(boundary (SparseCore.T d) ∗ regPre A d ∗ levAts (K (F := F)).L (K (F := F)).lev ∗ G d
      ∗ ((boundary (SparseCore.T d) ∗ regPost A d) -∗ Q ⟨⟩)) : sProp 𝕄)
    ⊢ iprop((iprop(boundary (SparseCore.T d) ∗ regPost A d) -∗ wp frame (wpE (D (F := F)) 𝒱 (SparseCore.T d) none) Set.univ (.ret PUnit.unit) Q)
      ∗ boundary (SparseCore.T d) ∗ regPre A d ∗ levAts (K (F := F)).L (K (F := F)).lev
      ∗ Pipeline.cellsGhost (Pipeline.pin (pcfgs (F := F)) adm) EP 0 d ∗ Pipeline.toksInit (Pipeline.pin (pcfgs (F := F)) adm) EP 0 d)
  iintro ⟨Hb, Hpre, Hlev, ⟨Hg, Ht⟩, HQ⟩
  isplitl [HQ]
  · iintro H
    rw [wp_ret]
    imodintro
    iapply HQ
    iexact H
  isplitl [Hb]; · iexact Hb
  isplitl [Hpre]; · iexact Hpre
  isplitl [Hlev]; · iexact Hlev
  isplitl [Hg]; · iexact Hg
  iexact Ht

/-- The region, run inside @main. -/
theorem region_wp [∀ e, Nonempty (Elt F e)] (A : Val F) (d : Dev nD) (Q : PUnit → sProp 𝕄) :
    (iprop(boundary (SparseCore.T d) ∗ regPre A d ∗ levAts (K (F := F)).L (K (F := F)).lev ∗ G d
        ∗ ((boundary (SparseCore.T d) ∗ regPost A d) -∗ Q ⟨⟩)) : sProp 𝕄)
      ⊢ wp frame (wpE ((K (F := F)).defs (D (F := F))) 𝒱 (SparseCore.T d) none) Set.univ
          (Prog.lift (.customCall (SparseCore.inner (Pipeline.entry 0)) ())) Q :=
  (region_wp₀ A d Q).trans ((K (F := F)).wp_liftProg (D (F := F)) 𝒱 (SparseCore.T d) Set.univ none _ Q)

/-! ## @main -/

/-- The TensorCore's buffers when the region is entered: the two transposes made. -/
def A : Val F := fun c => Function.update (Function.update (fun b => m ((SparseCore.T c).loc b)) main_v0 (coordT m c)) main_v1 (queryT m c)

/-- The TensorCore call finds the transposed points' coordinates. -/
theorem A_v0 (d : Dev nD) : A m d main_v0 = coordT m d := (Function.update_of_ne (by decide) _ _).trans (Function.update_self ..)
/-- The TensorCore call finds the transposed queries' coordinates. -/
theorem A_v1 (d : Dev nD) : A m d main_v1 = queryT m d := Function.update_self ..
/-- The transposes leave the other arrays as they were. -/
theorem A_of_ne (d : Dev nD) (b : Ref sig .tc) (h0 : b ≠ main_v0) (h1 : b ≠ main_v1) : A m d b = m ((SparseCore.T d).loc b) :=
  (Function.update_of_ne h1 _ _).trans (Function.update_of_ne h0 _ _)

/-- The result coordinates. -/
abbrev fctVal (d : Dev nD) : Vec F S4x8192 .f32 := fctAll (coordM m d) (coordT m d) (queryT m d)
/-- The result coordinates, one row per query. -/
abbrev fctT (d : Dev nD) : Vec F S8192x4 .f32 := transpose S8192x4 [1, 0] (fctVal m d) transposes_S4x8192_S8192x4_1_0

/-- The arrays of a device, one by one. -/
theorem unscopedBufs_eq (d : Dev nD) (W : (b : Ref sig .tc) → Buf (Elt F) ((d.tc : Thread nD τ).loc b)) :
    (unscopedBufs d W : sProp 𝕄) = iprop((((SparseCore.T d).loc main_arg0) ↦{fullShare} W main_arg0) ∗ (((SparseCore.T d).loc main_arg1) ↦{fullShare} W main_arg1)
      ∗ (((SparseCore.T d).loc main_arg2) ↦{fullShare} W main_arg2) ∗ (((SparseCore.T d).loc main_v0) ↦{fullShare} W main_v0)
      ∗ (((SparseCore.T d).loc main_v1) ↦{fullShare} W main_v1) ∗ (((SparseCore.T d).loc main_v2_0) ↦{fullShare} W main_v2_0)
      ∗ (((SparseCore.T d).loc main_v2_1) ↦{fullShare} W main_v2_1) ∗ (((SparseCore.T d).loc main_v2_2) ↦{fullShare} W main_v2_2)
      ∗ (((SparseCore.T d).loc main_v2_3) ↦{fullShare} W main_v2_3) ∗ (((SparseCore.T d).loc main_v3) ↦{fullShare} W main_v3)
      ∗ (((SparseCore.T d).loc main_v4) ↦{fullShare} W main_v4)) := by
  unfold unscopedBufs
  rw [show (Finset.univ.filter fun b : Ref sig .tc => ¬ b.isScoped)
      = {main_arg0, main_arg1, main_arg2, main_v0, main_v1, main_v2_0, main_v2_1, main_v2_2, main_v2_3, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the launch takes, on the one SparseCore. -/
theorem st0_eq (d : Dev nD) : (bigSep Finset.univ fun c : Fin ((K (F := F)).nCore 0) => (P m).st 0 d c)
    = iprop(xPts m d ∗ selPts m d ∗ flagPts m d ∗ outPts d (out0 m d)) := bigSep_univ_of_subsingleton (0 : Fin 1)
/-- What the launch gives back, on the one SparseCore. -/
theorem dn0_eq (d : Dev nD) : (bigSep Finset.univ fun c : Fin ((K (F := F)).nCore 0) => (P m).dn 0 d c)
    = iprop(xPts m d ∗ selPts m d ∗ flagPts m d ∗ outPts d (outVal m d)) := bigSep_univ_of_subsingleton (0 : Fin 1)

/-- What @main leaves: its arguments as they were, and its two results. -/
abbrev FIN (d : Dev nD) : sProp 𝕄 :=
  iprop((xLoc d ↦{fullShare} featM m d) ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v4 ↦{fullShare} fctT m d) ∗ (outLoc d ↦{fullShare} outVal m d))

/-- The launch's state on the TensorCore holds what the core owes. -/
theorem tcSt_zero (d : Dev nD) : ∃ R : sProp 𝕄,
    ((K (F := F)).tcSt EH d 0 : sProp 𝕄)
      = iprop((∃ W, ⌜(K (F := F)).WBelow (SparseCore.T d) W 0⌝ ∗ owes (SparseCore.T d) ((K (F := F)).Otc d 0) W) ∗ R) := ⟨_, rfl⟩

/-- The host program: the transposes, the TensorCore call, the SparseCore call, the last transpose. -/
theorem hmain [∀ e, Nonempty (Elt F e)] (κ : GSem nD τ sig → ℕ) (d : Dev nD) :
    (iprop((K (F := F)).ctx EH (P m) κ ∗ (K (F := F)).tcSt EH d 0 ∗ (K (F := F)).tcRes m ρ d ∗ G d) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_zero (F := F) d
  unfold SparseCore.Cfg.tcRes SparseCore.Cfg.tcEnd
  rw [unscopedBufs_eq]
  simp only [main, wp_bind, wp_pure]
  iintro ⟨#Hctx, Hst, ⟨Hb, ⟨H0, H1, H2, Hv0, Hv1, Hs, Hf, Hx, Hg, Hv3, Hv4⟩, Hts, -⟩, HG⟩
  iapply (wp_unary m _ 𝒱 d main_arg1 main_v0 (by decide) _ _ _ _ _ _)
  isplitl [Hb]; · iexact Hb
  isplitl [H1]; · iexact H1
  isplitl [Hv0]; · iexact Hv0
  iintro ⟨Hb, H1, Hv0⟩
  iapply (wp_unary m _ 𝒱 d main_arg2 main_v1 (by decide) _ _ _ _ _ _)
  isplitl [Hb]; · iexact Hb
  isplitl [H2]; · iexact H2
  isplitl [Hv1]; · iexact Hv1
  iintro ⟨Hb, H2, Hv1⟩
  ihave Hlev := (SparseCore.Cfg.ctx_levAts κ) $$ Hctx
  ihave Hst := (Entails.of_eq hR) $$ Hst
  icases Hst with ⟨⟨%W, %hW, HO⟩, Hst⟩
  iapply (region_wp (A m) d)
  isplitl [Hb]; · iexact Hb
  isplitl [H0 H1 H2 Hv0 Hv1 Hs Hf Hx Hg Hv3 Hv4 HO]
  · unfold regPre
    rw [unscopedBufs_eq, A_v0, A_v1]
    simp only [A_of_ne m d main_arg0 (by decide) (by decide), A_of_ne m d main_arg1 (by decide) (by decide), A_of_ne m d main_arg2 (by decide) (by decide),
      A_of_ne m d main_v2_0 (by decide) (by decide), A_of_ne m d main_v2_1 (by decide) (by decide), A_of_ne m d main_v2_2 (by decide) (by decide),
      A_of_ne m d main_v2_3 (by decide) (by decide), A_of_ne m d main_v3 (by decide) (by decide), A_of_ne m d main_v4 (by decide) (by decide)]
    isplitr [HO]
    · isplitl [H0]; · iexact H0
      isplitl [H1]; · iexact H1
      isplitl [H2]; · iexact H2
      isplitl [Hv0]; · iexact Hv0
      isplitl [Hv1]; · iexact Hv1
      isplitl [Hs]; · iexact Hs
      isplitl [Hf]; · iexact Hf
      isplitl [Hx]; · iexact Hx
      isplitl [Hg]; · iexact Hg
      isplitl [Hv3]; · iexact Hv3
      iexact Hv4
    iexists W; isplitr
    · ipureintro; exact hW
    · iexact HO
  isplitl [Hlev]; · iexact Hlev
  isplitl [HG]; · iexact HG
  unfold regPost aX aXT aYT
  rw [A_v0, A_v1]
  simp only [A_of_ne m d main_arg0 (by decide) (by decide), A_of_ne m d main_arg1 (by decide) (by decide), A_of_ne m d main_arg2 (by decide) (by decide),
    A_of_ne m d main_v3 (by decide) (by decide), A_of_ne m d main_v4 (by decide) (by decide)]
  iintro ⟨Hb, H1, Hv0, Hv1, H0, Hs, Hf, Hx, Hg, H2, Hv3, Hv4, ⟨%W2, %hW2, HO⟩⟩
  iapply (wp_unary m _ 𝒱 d main_v2_2 main_v3 (by decide) _ _ _ _ _ _)
  isplitl [Hb]; · iexact Hb
  isplitl [Hx]; · iexact Hx
  isplitl [Hv3]; · iexact Hv3
  iintro ⟨Hb, Hx, Hv3⟩
  iapply ((K (F := F)).wp_run (D (F := F)) 𝒱 (EH := EH) (P := P m) κ d 0)
  isplitr; · iexact Hctx
  isplitl [Hst HO]
  · iapply (Entails.of_eq hR.symm)
    isplitl [HO]
    · iexists W2; isplitr
      · ipureintro; exact hW2
      · iexact HO
    iexact Hst
  isplitl [H0 Hs Hg Hv3]
  · rw [st0_eq]
    isplitl [H0]; · iexact H0
    isplitl [Hs]; · iexact Hs
    isplitl [Hg]; · iexact Hg
    iexact Hv3
  iintro ⟨Hst, Hdn⟩
  ihave Hdn' := (Entails.of_eq (dn0_eq m d)) $$ Hdn
  icases Hdn' with ⟨H0, -, -, Hv3⟩
  iapply (wp_unary m _ 𝒱 d main_v2_1 main_v4 (by decide) _ _ _ _ _ _)
  isplitl [Hb]; · iexact Hb
  isplitl [Hf]; · iexact Hf
  isplitl [Hv4]; · iexact Hv4
  iintro ⟨Hb, Hf, Hv4⟩
  imodintro
  isplitl [Hst]; · iexact Hst
  isplitr [Hb Hts]
  · isplitl [H0]; · iexact H0
    isplitl [H1]; · iexact H1
    isplitl [H2]; · iexact H2
    isplitl [Hv4]; · iexact Hv4
    iexact Hv3
  isplitl [Hb] <;> iassumption

end Cert.Proof

end
-- ==== Proof.ScRun.lean ====
/-
  The whole program's run: what its results hold at the end, its arguments as they were, every semaphore at zero.
-/
module

public import proofs.«01_k».proof.Proof.ScMain

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MM F

variable (m : (ℓ : Loc nD τ sig) → Buf (Elt F) ℓ) (ρ : Dev nD → PrngReg)

/-! ## The ghost state at launch -/

/-- The pipeline's part of the ghost state: its cells' and its launch tokens' rounds. -/
def pipe₀ : UP := initOf (Pipeline.cells (nD := nD) (τ := τ) (Pipeline.pin (pcfgs (F := F)) adm) cellOf_inj) (Pipeline.launchToks (Pipeline.pin (pcfgs (F := F)) adm) cellOf_inj)

/-- The ghost state at launch: the handshakes' rounds, the pipeline's, no transfer counted. -/
def u₀ : UU := (initOf (K (F := F)).hsCells (K (F := F)).hsToks, (pipe₀ (F := F), 1))

omit [FloatOps F] in
/-- The pipeline's part splits into what each device's TensorCore keeps. -/
theorem pipe₀_split : (BI.own (EP (pipe₀ (F := F))) : sProp 𝕄) ⊢ |==> bigSep Finset.univ fun d : Dev nD => G (F := F) d := by
  refine BI.Entails.trans (Pipeline.fund_ghost (Pipeline.pin (pcfgs (F := F)) adm) EP cellOf_inj) (bupd_mono ?_)
  rw [← bigSep_sep']
  refine Entails.of_eq (bigSep_congr fun d _ => ?_)
  rw [bigSep_univ_of_subsingleton (0 : Fin 1), bigSep_univ_of_subsingleton (0 : Fin 1)]

/-- The ghost state at launch gives the handshakes' cells, each TensorCore's pipeline state, and what each thread brings. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((pipe₀ (F := F), 1) : UP × Counters)) $$ Hu
  icases H with ⟨HH, HR⟩
  ihave H := (own_pair_emb embR (pipe₀ (F := F)) (1 : Counters)) $$ HR
  icases H with ⟨HP, -⟩
  imod (pipe₀_split (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## Reading the final memory -/

omit [FloatOps F] in
/-- A buffer held whole at contents `f` reads `f`. -/
theorem mem_agree (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

/-- What the memory holds on device `d` at the end. -/
def fq (d : Dev nD) (mem : (ℓ : Loc nD τ sig) → Buf (Elt F) ℓ) : Prop :=
  mem (xLoc d) = m (xLoc d) ∧ mem ((SparseCore.T d).loc main_arg1) = m ((SparseCore.T d).loc main_arg1)
    ∧ mem ((SparseCore.T d).loc main_arg2) = m ((SparseCore.T d).loc main_arg2)
    ∧ mem ((SparseCore.T d).loc main_v4) = fctT m d ∧ mem (outLoc d) = outVal m d

/-- What @main leaves fixes the final memory. -/
theorem hfin (d : Dev nD) (s' : Phys nD τ sig (Elt F)) : (iprop(FIN m d ∗ SI s') : sProp 𝕄) ⊢ (⌜fq m d s'.mem.mem⌝ : sProp 𝕄) := by
  iintro ⟨⟨H0, H1, H2, H4, H3⟩, HSI⟩
  ihave H := (mem_agree (xLoc d) (featM m d) s') $$ [H0 HSI]
  · isplitl [H0] <;> iassumption
  icases H with ⟨%h0, HSI⟩
  ihave H := (mem_agree ((SparseCore.T d).loc main_arg1) (m ((SparseCore.T d).loc main_arg1)) s') $$ [H1 HSI]
  · isplitl [H1] <;> iassumption
  icases H with ⟨%h1, HSI⟩
  ihave H := (mem_agree ((SparseCore.T d).loc main_arg2) (m ((SparseCore.T d).loc main_arg2)) s') $$ [H2 HSI]
  · isplitl [H2] <;> iassumption
  icases H with ⟨%h2, HSI⟩
  ihave H := (mem_agree ((SparseCore.T d).loc main_v4) (fctT m d) s') $$ [H4 HSI]
  · isplitl [H4] <;> iassumption
  icases H with ⟨%h4, HSI⟩
  ihave H := (mem_agree (outLoc d) (outVal m d) s') $$ [H3 HSI]
  · isplitl [H3] <;> iassumption
  icases H with ⟨%h3, -⟩
  ipureintro
  exact ⟨h0, h1, h2, h4, h3⟩

/-! ## The run -/

/-- The final state: on every device the results at their values and the arguments unchanged; every semaphore zero. -/
def QC : PUnit × MemSt nD τ sig (Elt F) → Prop := fun r => (∀ d : Dev nD, fq m d r.2.mem) ∧ r.2.sem = fun _ => 0

/-- The program runs and ends in such a state, if every selected row is a row of the features. -/
theorem run_main [∀ e, Nonempty (Elt F e)] (hsel : ∀ d r, (selVal m d r : BitVec 32).toNat < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hsel)
    (fun q _ => match q with | 0 => SparseCore.Cfg.VecSplit.of_plain (vecSplit m))
    m ρ main (fun d => G (F := F) d) (FIN m) (u₀ (F := F)) (sep_elim_left.trans (hu₀ m)) (hmain m ρ) (fun d s' => fq m d s'.mem.mem) (hfin m) (QC m) (fun _ h hz => ⟨h, hz⟩)

end Cert.Proof

end
-- ==== Proof.SelRow.lean ====
/-
  The selected row: the least row of the points whose packed coordinates are the query's, as a word below 2048.
-/
module

public import proofs.«01_k».proof.Proof.Vals
public import Idealize.ShloMosaic.Lib.SortNet.Extract
public import Idealize.ShloMosaic.Lib.Pointwise
public import Idealize.ShloMosaic.PureOps.Reduce

@[expose] public section

noncomputable section

namespace Cert.Proof

open Cert.KernelIdeal Cert.KernelIdeal.Gen

open Idealize.ShloMosaic Idealize.ShloMosaic.TcCoe

variable {F : FTy → Type} [FloatOps F]

/-! ## A signed minimum over a set of words -/

/-- The minimum is at most every word of the set. -/
theorem fold_minsi_le {ι : Type} [DecidableEq ι] (S : Finset ι) (f : ι → BitVec 32) (z : BitVec 32) :
    ∀ i ∈ S, (S.fold IntOp.minsi z f).toInt ≤ (f i).toInt := by
  induction S using Finset.cons_induction with
  | empty => simp
  | cons a S ha ih =>
    intro i hi
    rw [Finset.fold_cons, SortNet.toInt_minsi]
    rcases Finset.mem_cons.1 hi with e | hi
    · subst e; exact min_le_left _ _
    · exact (min_le_right _ _).trans (ih i hi)

/-- The minimum is the initial word or one of the set's. -/
theorem fold_minsi_mem {ι : Type} [DecidableEq ι] (S : Finset ι) (f : ι → BitVec 32) (z : BitVec 32) :
    S.fold IntOp.minsi z f = z ∨ ∃ i ∈ S, S.fold IntOp.minsi z f = f i := by
  induction S using Finset.cons_induction with
  | empty => simp
  | cons a S ha ih =>
    rw [Finset.fold_cons]
    have hm : ∀ b : BitVec 32, IntOp.minsi (f a) b = f a ∨ IntOp.minsi (f a) b = b := fun b => by
      unfold IntOp.minsi; split <;> simp
    rcases hm (S.fold IntOp.minsi z f) with e | e
    · exact .inr ⟨a, Finset.mem_cons_self a S, e⟩
    · rw [e]
      rcases ih with h | ⟨i, hi, h⟩
      · exact .inl h
      · exact .inr ⟨i, Finset.mem_cons.2 (.inr hi), h⟩

/-! ## The selected row -/

/-- Four coordinates packed in base 24. -/
def pack (a b c d : BitVec 32) : BitVec 32 := ((a * 24#32 + b) * 24#32 + c) * 24#32 + d

/-- The packed coordinates of point `p`. -/
def keyX (X0 : Vec F S2048x4 .i32) (p : Fin 2048) : BitVec 32 := pack (X0 (ix2 p 0)) (X0 (ix2 p 1)) (X0 (ix2 p 2)) (X0 (ix2 p 3))

/-- Query `q`'s cell coordinate on axis `a`: its coordinate over 8, rounded down. -/
def cellY (X2 : Vec F S4x8192 .i32) (q : Fin 8192) (a : Fin 4) : BitVec 32 := (X2 (ix2 a q) : BitVec 32).sshiftRight' 3#32

/-- The packed cell coordinates of query `q`. -/
def keyY (X2 : Vec F S4x8192 .i32) (q : Fin 8192) : BitVec 32 := pack (cellY X2 q 0) (cellY X2 q 1) (cellY X2 q 2) (cellY X2 q 3)

/-- Query `j` of block `t` among all. -/
def qOf (t : Fin grid0.N) (j : Fin 512) : Fin 8192 := ⟨512 * t.val + j.val, by have h : t.val < 16 := t.isLt; omega⟩

/-- The value at `(p, j)` of what is minimised: the row number where the packed coordinates agree, 2048 elsewhere. -/
def cand (X0 : Vec F S2048x4 .i32) (X2 : Vec F S4x8192 .i32) (q : Fin 8192) (p : Fin 2048) : BitVec 32 :=
  if keyX X0 p = keyY X2 q then BitVec.ofNat 32 p.val else 2048#32

/-- A block of queries, read at an element. -/
theorem yBlk_apply (X2 : Vec F S4x8192 .i32) (t : Fin grid0.N) (a : Fin 4) (j : Fin 512) :
    yBlk X2 (grid0.coords t) (ix2 a j) = X2 (ix2 a (qOf t j)) := by
  unfold yBlk
  congr 1
  funext b
  refine Fin.ext ?_
  match b with
  | 0 => simp [off1_eq]
  | 1 => simp [off1_eq, qOf]

/-- A column of the points' coordinates, read at an element. -/
theorem xCol_apply (X0 : Vec F S2048x4 .i32) (n : ℕ) (k : Fin 4) (e : n = k.val) (h : ∀ a, (![0, n] : Fin 2 → ℕ) a + S2048x1.size a ≤ S2048x4.size a) (p : Fin 2048) :
    xCol X0 n h (ix2 p 0) = X0 (ix2 p k) := by
  subst e
  unfold xCol
  congr 1
  funext b
  refine Fin.ext ?_
  match b with
  | 0 => simp
  | 1 => simp

/-- Choosing by an equality test of words. -/
theorem select_eq_if {α : Type} (a b : BitVec 32) (x y : α) : Scalar.select (IntOp.cmpi .eq a b) x y = if a = b then x else y := by
  show Scalar.select (BitVec.ofBool (a == b)) x y = _
  by_cases h : a = b
  · subst h; simp; rfl
  · rw [if_neg h, beq_false_of_ne h]; rfl

/-- The minimum is taken of the row numbers where the packed words agree, and of 2048 elsewhere. -/
theorem minB_src (X0 : Vec F S2048x4 .i32) (X2 : Vec F S4x8192 .i32) (t : Fin grid0.N) :
    ∃ src : IVec S2048x512 32, (∀ p j, src (ix2 p j) = cand X0 X2 (qOf t j) p)
      ∧ minB X0 X2 (grid0.coords t) = multiReductionI .minsi [0] S512 src 2147483647#32 reduces_S2048x512_S512 rfl := by
  unfold minB k0_pay3
  dsimp only
  refine ⟨_, ?_, rfl⟩
  intro p j
  pointwise [k0_pay2]
  rw [select_eq_if]
  rw [xCol_apply X0 0 0 rfl, xCol_apply X0 1 1 rfl, xCol_apply X0 2 2 rfl, xCol_apply X0 3 3 rfl]
  simp only [yBlk_apply]
  rfl

/-- The minimum over the rows is at most the candidate of every row, and is the candidate of one. -/
theorem minB_spec (X0 : Vec F S2048x4 .i32) (X2 : Vec F S4x8192 .i32) (t : Fin grid0.N) (j : Fin 512) :
    (∀ p, (minB X0 X2 (grid0.coords t) (ix1 j)).toInt ≤ (cand X0 X2 (qOf t j) p).toInt)
      ∧ ∃ p, minB X0 X2 (grid0.coords t) (ix1 j) = cand X0 X2 (qOf t j) p := by
  obtain ⟨src, hs, e⟩ := minB_src X0 X2 t
  have hM : minB X0 X2 (grid0.coords t) (ix1 j) = _ :=
    (congrFun e (ix1 j)).trans (multiReductionI_eq_fold .minsi src 2147483647#32 reduces_S2048x512_S512 rfl (ix1 j))
  rw [hM]
  have hmem : ∀ p : Fin 2048, ix2 p j ∈ Finset.univ.filter fun i => reduces_S2048x512_S512.drop i = ix1 j := fun p => by
    rw [Finset.mem_filter]
    refine ⟨Finset.mem_univ _, ?_⟩
    funext b
    match b with
    | 0 => exact Fin.ext (Shape.Reduces.drop_val reduces_S2048x512_S512 (ix2 p j) 0)
  have hle : ∀ p, _ ≤ (cand X0 X2 (qOf t j) p).toInt := fun p => (fold_minsi_le _ src 2147483647#32 _ (hmem p)).trans_eq (by rw [hs])
  refine ⟨hle, ?_⟩
  rcases fold_minsi_mem (Finset.univ.filter fun i => reduces_S2048x512_S512.drop i = ix1 j) src 2147483647#32 with h | ⟨i, hi, h⟩
  · have := hle 0
    rw [h] at this
    unfold cand at this
    split at this <;> exact absurd this (by decide)
  · have hj : (i 1 : Fin 512) = j := Fin.ext
      ((Shape.Reduces.drop_val reduces_S2048x512_S512 i 0).symm.trans (congrArg Fin.val (congrFun (Finset.mem_filter.1 hi).2 0)))
    refine ⟨(i 0 : Fin 2048), h.trans (.trans (congrArg src ?_) (hs (i 0) j))⟩
    funext b
    match b with
    | 0 => rfl
    | 1 => exact hj

/-- The selected row of query `q`: the least row whose packed coordinates are the query's, or 0 if there is none. -/
theorem selB_spec (X0 : Vec F S2048x4 .i32) (X2 : Vec F S4x8192 .i32) (t : Fin grid0.N) (j : Fin 512) :
    (∃ p : Fin 2048, minB X0 X2 (grid0.coords t) (ix1 j) = BitVec.ofNat 32 p.val ∧ keyX X0 p = keyY X2 (qOf t j) ∧ ∀ p', keyX X0 p' = keyY X2 (qOf t j) → p ≤ p')
      ∨ (minB X0 X2 (grid0.coords t) (ix1 j) = 2048#32 ∧ ∀ p, keyX X0 p ≠ keyY X2 (qOf t j)) := by
  have hofNat : ∀ p : Fin 2048, (BitVec.ofNat 32 p.val).toInt = p.val := fun p => by
    rw [BitVec.toInt_eq_toNat_of_lt] <;> simp <;> omega
  obtain ⟨hle, p, hp⟩ := minB_spec X0 X2 t j
  unfold cand at hp hle
  split at hp
  · rename_i hk
    refine .inl ⟨p, hp, hk, fun p' hp' => ?_⟩
    have := hle p'
    rw [if_pos hp', hp, hofNat, hofNat] at this
    exact Fin.le_def.2 (by omega)
  · refine .inr ⟨hp, fun p' hp' => ?_⟩
    have := hle p'
    rw [if_pos hp', hp, hofNat] at this
    have h2 : (2048#32 : BitVec 32).toInt = 2048 := by decide
    omega

/-- Whether a row matched, as the comparison computes it. -/
theorem select_slt_if {α : Type} (a b : BitVec 32) (x y : α) : Scalar.select (IntOp.cmpi .slt a b) x y = if a.toInt < b.toInt then x else y := by
  show Scalar.select (BitVec.ofBool (a.slt b)) x y = _
  rw [BitVec.slt_eq_decide]
  by_cases h : a.toInt < b.toInt
  · simp [h]; rfl
  · simp [h]; rfl

/-- The selected row is a row. -/
theorem selB_eq (X0 : Vec F S2048x4 .i32) (X2 : Vec F S4x8192 .i32) (t : Fin grid0.N) (j : Fin 512) :
    selB X0 X2 (grid0.coords t) (ix1 j)
      = if (minB X0 X2 (grid0.coords t) (ix1 j)).toInt < (2048#32 : BitVec 32).toInt then minB X0 X2 (grid0.coords t) (ix1 j) else 0#32 := by
  unfold selB k0_pay5
  pointwise [k0_pay4]
  rw [select_slt_if]

/-- A selected row is a row of the features. -/
theorem selB_lt (X0 : Vec F S2048x4 .i32) (X2 : Vec F S4x8192 .i32) (t : Fin grid0.N) (j : Fin 512) :
    (selB X0 X2 (grid0.coords t) (ix1 j)).toNat < 2048 := by
  rw [selB_eq]
  rcases selB_spec X0 X2 t j with ⟨p, hp, -⟩ | ⟨h, -⟩
  · rw [hp]; split
    · simp; omega
    · simp
  · rw [h]; simp

/-- Every selected row is a row. -/
theorem selAll_lt (X0 : Vec F S2048x4 .i32) (X2 : Vec F S4x8192 .i32) (r : S8192.Idx) : (selAll X0 X2 r : BitVec 32).toNat < 2048 :=
  selB_lt X0 X2 _ _

end Cert.Proof
end
-- ==== Proof.RefRun.lean ====
/-
  The reference's run: what its results hold at the end, as functions of its arguments.
-/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Pipeline.Frame

@[expose] public section

noncomputable section

namespace Cert.Proof.Ref

open Cert.ReferenceIdeal Cert.ReferenceIdeal.Gen
open Idealize.ShloMosaic Idealize.ShloMosaic.TcCoe Idealize.ShloMosaic.StableHlo
open Idealize.SL.Sem

variable {F : FTy → Type} [FloatOps F]

/-! ## The values -/

/-- The points' coordinates as floats. -/
def coordF (X : IVec S2048x4 32) : FVec F S2048x4 .f32 := sitofp .f32 X

/-- The points' coordinates times eight, an axis added for the queries. -/
def low (X : IVec S2048x4 32) : FVec F S2048x1x4 .f32 :=
  broadcastInDim S2048x1x4 ![0, 2] bcast_S2048x4_S2048x1x4_0_2
    (mulf (coordF X) (broadcastInDim S2048x4 ![] bcast_S_S2048x4 (constant S_ .f32 0x41000000#32)))

/-- The queries' coordinates as floats, along every point. -/
def query (Y : IVec S8192x4 32) : FVec F S2048x8192x4 .f32 :=
  broadcastInDim S2048x8192x4 ![0, 1, 2] bcast_S1x8192x4_S2048x8192x4_0_1_2
    (broadcastInDim S1x8192x4 ![1, 2] bcast_S8192x4_S1x8192x4_1_2 (sitofp .f32 Y))

/-- Per point, query and axis: the cell's lower corner is at most the query. -/
def above (X : IVec S2048x4 32) (Y : IVec S8192x4 32) : IVec S2048x8192x4 1 :=
  cmpf .ole (broadcastInDim S2048x8192x4 ![0, 1, 2] bcast_S2048x1x4_S2048x8192x4_0_1_2 (low (F := F) X)) (query Y)

/-- Per point, query and axis: the cell's upper corner is over the query. -/
def below (X : IVec S2048x4 32) (Y : IVec S8192x4 32) : IVec S2048x8192x4 1 :=
  cmpf .ogt (broadcastInDim S2048x8192x4 ![0, 1, 2] bcast_S2048x1x4_S2048x8192x4_0_1_2
    (addf (low (F := F) X) (broadcastInDim S2048x1x4 ![] bcast_S_S2048x1x4 (constant S_ .f32 0x41000000#32)))) (query Y)

/-- All four axes. -/
def allAxes (b : IVec S2048x8192x4 1) : IVec S2048x8192 1 :=
  Host.reduce IntOp.andi b (constantI S_ 1 1#1) reducesTo_S2048x8192x4_S2048x8192_d2 h_S_

/-- Per query and point: the query lies in the point's cell. -/
def inside (X : IVec S2048x4 32) (Y : IVec S8192x4 32) : IVec S8192x2048 1 :=
  transpose S8192x2048 [1, 0] (andi (allAxes (above (F := F) X Y)) (allAxes (below (F := F) X Y))) transposes_S2048x8192_S8192x2048_1_0

/-- Per query, the first point whose entry is greatest. -/
def argmax (b : IVec S8192x2048 1) : IVec S8192 32 := fun j =>
  (Host.reduce2 reducer_argmax_i1_i32 b (iotaInDim S8192x2048 32 1) (constantI S_ 1 0#1) (constantI S_ 32 0#32)
    reducesTo_S8192x2048_S8192_d1 h_S_ j).2

/-- The rows to take, a negative one counted from the end. -/
def wrapped (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 2048#32))) s)

/-- Whether the row to take is one of the 2048. -/
def inRange (s : IVec S8192 32) : IVec S8192 1 :=
  Host.reduce IntOp.andi
    (andi (cmpi .sge (wrapped s) (broadcastInDim S8192x1 ![] bcast_S_S8192x1 (constantI S_ 32 0#32)))
      (cmpi .sle (wrapped s) (broadcastInDim S8192x1 ![0, 1] bcast_S1x1_S8192x1_0_1
        (broadcastInDim S1x1 ![1] bcast_S1_S1x1_1 (constantI S1 32 2047#32)))))
    (constantI S_ 1 1#1) reducesTo_S8192x1_S8192_d1 h_S_

/-- The features' rows at `s`. -/
def takeFeat (x : FVec F S2048x512 .f32) (s : IVec S8192 32) : FVec F S8192x512 .f32 :=
  select (broadcastInDim S8192x512 ![0] bcast_S8192_S8192x512_0 (inRange s))
    (Host.gather gather_S2048x512_S8192x1_S8192x512_1_0_n_n_0_1_1512 x (wrapped s))
    (broadcastInDim S8192x512 ![] bcast_S_S8192x512 (constant S_ .f32 0x7FC00000#32))

/-- The coordinates' rows at `s`. -/
def takeCoord (x : FVec F S2048x4 .f32) (s : IVec S8192 32) : FVec F S8192x4 .f32 :=
  select (broadcastInDim S8192x4 ![0] bcast_S8192_S8192x4_0 (inRange s))
    (Host.gather gather_S2048x4_S8192x1_S8192x4_1_0_n_n_0_1_14 x (wrapped s))
    (broadcastInDim S8192x4 ![] bcast_S_S8192x4 (constant S_ .f32 0x7FC00000#32))

/-- The row that the reference takes per query. -/
def sel (X : IVec S2048x4 32) (Y : IVec S8192x4 32) : IVec S8192 32 := argmax (inside (F := F) X Y)

/-! ## The operations -/

/-- The match test. -/
abbrev headOps : List (HloOp τ sig (Elt F)) :=
  [ unary main_arg1 main_v0 (sitofp .f32),
    unary main_arg2 main_v1 (sitofp .f32),
    nullary main_cst (constant S_ .f32 0x41000000#32),
    unary main_cst main_v2 (broadcastInDim S2048x4 ![] bcast_S_S2048x4),
    binary main_v0 main_v2 main_v3 mulf,
    unary main_v3 main_v4 (broadcastInDim S2048x1x4 ![0, 2] bcast_S2048x4_S2048x1x4_0_2),
    unary main_v1 main_v5 (broadcastInDim S1x8192x4 ![1, 2] bcast_S8192x4_S1x8192x4_1_2),
    unary main_v4 main_v6 (broadcastInDim S2048x8192x4 ![0, 1, 2] bcast_S2048x1x4_S2048x8192x4_0_1_2),
    unary main_v5 main_v7 (broadcastInDim S2048x8192x4 ![0, 1, 2] bcast_S1x8192x4_S2048x8192x4_0_1_2),
    binary main_v6 main_v7 main_v8 (cmpf .ole),
    nullary main_c (constantI S_ 1 1#1),
    binary main_v8 main_c main_v9 (fun x v => Host.reduce IntOp.andi x v reducesTo_S2048x8192x4_S2048x8192_d2 h_S_),
    nullary main_cst_0 (constant S_ .f32 0x41000000#32),
    unary main_cst_0 main_v10 (broadcastInDim S2048x1x4 ![] bcast_S_S2048x1x4),
    binary main_v4 main_v10 main_v11 addf,
    unary main_v11 main_v12 (broadcastInDim S2048x8192x4 ![0, 1, 2] bcast_S2048x1x4_S2048x8192x4_0_1_2),
    unary main_v5 main_v13 (broadcastInDim S2048x8192x4 ![0, 1, 2] bcast_S1x8192x4_S2048x8192x4_0_1_2),
    binary main_v12 main_v13 main_v14 (cmpf .ogt),
    nullary main_c_1 (constantI S_ 1 1#1),
    binary main_v14 main_c_1 main_v15 (fun x v => Host.reduce IntOp.andi x v reducesTo_S2048x8192x4_S2048x8192_d2 h_S_),
    binary main_v9 main_v15 main_v16 andi,
    unary main_v16 main_v17 (transpose S8192x2048 [1, 0] · transposes_S2048x8192_S8192x2048_1_0) ]

/-- The argmax. -/
abbrev argmaxOps (a : TRef sig ⟨S8192x2048, .i1⟩) (φ : fn_argmax.Bufs) : List (HloOp τ sig (Elt F)) :=
  [ TRef.nullary φ.v0 (iotaInDim S8192x2048 32 1),
    TRef.nullary φ.c (constantI S_ 1 0#1),
    TRef.nullary φ.c_0 (constantI S_ 32 0#32),
    TRef.quaternary a φ.v0 φ.c φ.c_0 φ.v1_0 (fun x y u v j => (Host.reduce2 reducer_argmax_i1_i32 x y u v reducesTo_S8192x2048_S8192_d1 h_S_ j).1),
    TRef.quaternary a φ.v0 φ.c φ.c_0 φ.v1_1 (fun x y u v j => (Host.reduce2 reducer_argmax_i1_i32 x y u v reducesTo_S8192x2048_S8192_d1 h_S_ j).2) ]

/-- The take of the features' rows. -/
abbrev takeOps (a : TRef sig ⟨S2048x512, .f32⟩) (s : TRef sig ⟨S8192, .i32⟩) (φ : fn_take.Bufs) : List (HloOp τ sig (Elt F)) :=
  [ TRef.nullary φ.c (constantI S_ 32 0#32),
    TRef.unary φ.c φ.v0 (broadcastInDim S8192 ![] bcast_S_S8192),
    TRef.binary s φ.v0 φ.v1 (cmpi .slt),
    TRef.nullary φ.c_0 (constantI S_ 32 2048#32),
    TRef.unary φ.c_0 φ.v2 (broadcastInDim S8192 ![] bcast_S_S8192),
    TRef.binary s φ.v2 φ.v3 addi,
    TRef.ternary φ.v1 φ.v3 s φ.call0.v0 select,
    TRef.unary φ.call0.v0 φ.v5 (broadcastInDim S8192x1 ![0] bcast_S8192_S8192x1_0),
    TRef.nullary φ.c_1 (constantI S1 32 2047#32),
    TRef.nullary φ.c_2 (constantI S_ 32 0#32),
    TRef.unary φ.c_2 φ.v6 (broadcastInDim S8192x1 ![] bcast_S_S8192x1),
    TRef.binary φ.v5 φ.v6 φ.v7 (cmpi .sge),
    TRef.unary φ.c_1 φ.v8 (broadcastInDim S1x1 ![1] bcast_S1_S1x1_1),
    TRef.unary φ.v8 φ.v9 (broadcastInDim S8192x1 ![0, 1] bcast_S1x1_S8192x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1_S8192_d1 h_S_),
    TRef.binary a φ.v5 φ.v13 (fun x i => Host.gather gather_S2048x512_S8192x1_S8192x512_1_0_n_n_0_1_1512 x i),
    TRef.unary φ.v12 φ.v14 (broadcastInDim S8192x512 ![0] bcast_S8192_S8192x512_0),
    TRef.nullary φ.cst (constant S_ .f32 0x7FC00000#32),
    TRef.unary φ.cst φ.v15 (broadcastInDim S8192x512 ![] bcast_S_S8192x512),
    TRef.ternary φ.v14 φ.v13 φ.v15 φ.v16 select ]

/-- The take of the coordinates' rows. -/
abbrev takeOps₀ (a : TRef sig ⟨S2048x4, .f32⟩) (s : TRef sig ⟨S8192, .i32⟩) (φ : fn_take_0.Bufs) : List (HloOp τ sig (Elt F)) :=
  [ TRef.nullary φ.c (constantI S_ 32 0#32),
    TRef.unary φ.c φ.v0 (broadcastInDim S8192 ![] bcast_S_S8192),
    TRef.binary s φ.v0 φ.v1 (cmpi .slt),
    TRef.nullary φ.c_0 (constantI S_ 32 2048#32),
    TRef.unary φ.c_0 φ.v2 (broadcastInDim S8192 ![] bcast_S_S8192),
    TRef.binary s φ.v2 φ.v3 addi,
    TRef.ternary φ.v1 φ.v3 s φ.call0.v0 select,
    TRef.unary φ.call0.v0 φ.v5 (broadcastInDim S8192x1 ![0] bcast_S8192_S8192x1_0),
    TRef.nullary φ.c_1 (constantI S1 32 2047#32),
    TRef.nullary φ.c_2 (constantI S_ 32 0#32),
    TRef.unary φ.c_2 φ.v6 (broadcastInDim S8192x1 ![] bcast_S_S8192x1),
    TRef.binary φ.v5 φ.v6 φ.v7 (cmpi .sge),
    TRef.unary φ.c_1 φ.v8 (broadcastInDim S1x1 ![1] bcast_S1_S1x1_1),
    TRef.unary φ.v8 φ.v9 (broadcastInDim S8192x1 ![0, 1] bcast_S1x1_S8192x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1_S8192_d1 h_S_),
    TRef.binary a φ.v5 φ.v13 (fun x i => Host.gather gather_S2048x4_S8192x1_S8192x4_1_0_n_n_0_1_14 x i),
    TRef.unary φ.v12 φ.v14 (broadcastInDim S8192x4 ![0] bcast_S8192_S8192x4_0),
    TRef.nullary φ.cst (constant S_ .f32 0x7FC00000#32),
    TRef.unary φ.cst φ.v15 (broadcastInDim S8192x4 ![] bcast_S_S8192x4),
    TRef.ternary φ.v14 φ.v13 φ.v15 φ.v16 select ]

/-- The operations of @main in order. -/
abbrev ops : List (HloOp τ sig (Elt F)) :=
  headOps ++ (argmaxOps (.of main_v17) main_call0 ++ (takeOps (.of main_arg0) (.of main_v18) main_call1 ++ takeOps₀ (.of main_v0) (.of main_v18) main_call2))

/-- The argmax's body is a list of operations. -/
theorem argmax_body (a : TRef sig ⟨S8192x2048, .i1⟩) (φ : fn_argmax.Bufs) : fn_argmax.body (F := F) a φ = seq (argmaxOps a φ) := by
  simp only [fn_argmax.body, seq]

/-- The features' gather is a list of operations. -/
theorem take_body (a : TRef sig ⟨S2048x512, .f32⟩) (s : TRef sig ⟨S8192, .i32⟩) (φ : fn_take.Bufs) : fn_take.body (F := F) a s φ = seq (takeOps a s φ) := by
  simp only [fn_take.body, fn_where.body, seq, bind_assoc, pure_bind]

/-- The coordinates' gather is a list of operations. -/
theorem take₀_body (a : TRef sig ⟨S2048x4, .f32⟩) (s : TRef sig ⟨S8192, .i32⟩) (φ : fn_take_0.Bufs) : fn_take_0.body (F := F) a s φ = seq (takeOps₀ a s φ) := by
  simp only [fn_take_0.body, fn_where.body, seq, bind_assoc, pure_bind]

/-- @main is that line of operations. -/
theorem main_eq (c : Dev nD) : main (F := F) c = seq ops := by
  rw [seq_append, seq_append, seq_append, ← argmax_body, ← take_body, ← take₀_body]
  simp only [main, seq, bind_assoc, pure_bind, bind_pure_unit]
  rfl

/-- The match test's values. -/
theorem head_eq (V : Valuation τ sig (Elt F)) :
    after headOps V (main_v17 : DevRef τ sig) = inside (F := F) (V (main_arg1 : DevRef τ sig)) (V (main_arg2 : DevRef τ sig))
      ∧ after headOps V (main_v0 : DevRef τ sig) = coordF (F := F) (V (main_arg1 : DevRef τ sig)) := by
  constructor <;> (after_results_simp; rfl)

/-- The argmax's value. -/
theorem argmax_eq (V : Valuation τ sig (Elt F)) :
    after (argmaxOps (.of main_v17) main_call0) V (main_v18 : DevRef τ sig) = argmax (V (main_v17 : DevRef τ sig)) := by
  after_results_simp
  rfl

set_option maxRecDepth 65536 in
/-- The features' rows. -/
theorem take_eq (V : Valuation τ sig (Elt F)) :
    after (takeOps (.of main_arg0) (.of main_v18) main_call1) V (main_v19 : DevRef τ sig) = takeFeat (V (main_arg0 : DevRef τ sig)) (V (main_v18 : DevRef τ sig)) := by
  after_results_simp
  simp only [TRef.ofBuf_toBuf]
  rfl

set_option maxRecDepth 65536 in
/-- The coordinates' rows. -/
theorem take₀_eq (V : Valuation τ sig (Elt F)) :
    after (takeOps₀ (.of main_v0) (.of main_v18) main_call2) V (main_v20 : DevRef τ sig) = takeCoord (V (main_v0 : DevRef τ sig)) (V (main_v18 : DevRef τ sig)) := by
  after_results_simp
  simp only [TRef.ofBuf_toBuf]
  rfl

/-- What the match test leaves as it was. -/
theorem head_keeps (V : Valuation τ sig (Elt F)) :
    after headOps V (main_arg0 : DevRef τ sig) = V (main_arg0 : DevRef τ sig)
      ∧ after headOps V (main_arg1 : DevRef τ sig) = V (main_arg1 : DevRef τ sig)
      ∧ after headOps V (main_arg2 : DevRef τ sig) = V (main_arg2 : DevRef τ sig) := by
  refine ⟨?_, ?_, ?_⟩ <;> after_results_simp

/-- What the argmax leaves as it was. -/
theorem argmax_keeps (V : Valuation τ sig (Elt F)) (r : Ref sig .tc) (h : r ∈ [main_arg0, main_arg1, main_arg2, main_v0]) :
    after (argmaxOps (.of main_v17) main_call0) V (r : DevRef τ sig) = V (r : DevRef τ sig) := by
  simp only [List.mem_cons, List.not_mem_nil, or_false] at h
  rcases h with rfl | rfl | rfl | rfl <;> after_results_simp

/-- What the take of the features' rows leaves as it was. -/
theorem take_keeps (V : Valuation τ sig (Elt F)) (r : Ref sig .tc) (h : r ∈ [main_arg0, main_arg1, main_arg2, main_v0, main_v18]) :
    after (takeOps (.of main_arg0) (.of main_v18) main_call1) V (r : DevRef τ sig) = V (r : DevRef τ sig) := by
  simp only [List.mem_cons, List.not_mem_nil, or_false] at h
  rcases h with rfl | rfl | rfl | rfl | rfl <;> after_results_simp

/-- What the take of the coordinates' rows leaves as it was. -/
theorem take₀_keeps (V : Valuation τ sig (Elt F)) (r : Ref sig .tc) (h : r ∈ [main_arg0, main_arg1, main_arg2, main_v19]) :
    after (takeOps₀ (.of main_v0) (.of main_v18) main_call2) V (r : DevRef τ sig) = V (r : DevRef τ sig) := by
  simp only [List.mem_cons, List.not_mem_nil, or_false] at h
  rcases h with rfl | rfl | rfl | rfl <;> after_results_simp

/-- The features' result. -/
theorem feat_eq (V : Valuation τ sig (Elt F)) :
    after ops V (main_v19 : DevRef τ sig)
      = takeFeat (V (main_arg0 : DevRef τ sig)) (sel (F := F) (V (main_arg1 : DevRef τ sig)) (V (main_arg2 : DevRef τ sig))) := by
  rw [StableHlo.after_append, StableHlo.after_append, StableHlo.after_append, take₀_keeps _ _ (by simp), take_eq, argmax_keeps _ _ (by simp), argmax_eq, (head_eq V).1,
    (head_keeps V).1]
  rfl

/-- The coordinates' result. -/
theorem coord_eq (V : Valuation τ sig (Elt F)) :
    after ops V (main_v20 : DevRef τ sig)
      = takeCoord (coordF (V (main_arg1 : DevRef τ sig))) (sel (F := F) (V (main_arg1 : DevRef τ sig)) (V (main_arg2 : DevRef τ sig))) := by
  rw [StableHlo.after_append, StableHlo.after_append, StableHlo.after_append, take₀_eq, take_keeps _ main_v0 (by simp), take_keeps _ main_v18 (by simp),
    argmax_keeps _ _ (by simp), argmax_eq, (head_eq V).1, (head_eq V).2]
  rfl

/-- No argument is written. -/
theorem arg_eq (V : Valuation τ sig (Elt F)) (r : Ref sig .tc) (h : r ∈ [main_arg0, main_arg1, main_arg2]) :
    after ops V (r : DevRef τ sig) = V (r : DevRef τ sig) := by
  rw [StableHlo.after_append, StableHlo.after_append, StableHlo.after_append]
  simp only [List.mem_cons, List.not_mem_nil, or_false] at h
  rcases h with rfl | rfl | rfl
  · rw [take₀_keeps _ _ (by simp), take_keeps _ _ (by simp), argmax_keeps _ _ (by simp), (head_keeps V).1]
  · rw [take₀_keeps _ _ (by simp), take_keeps _ _ (by simp), argmax_keeps _ _ (by simp), (head_keeps V).2.1]
  · rw [take₀_keeps _ _ (by simp), take_keeps _ _ (by simp), argmax_keeps _ _ (by simp), (head_keeps V).2.2]

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- The operations name buffers of the TensorCore only. -/
theorem ops_sub : (ops : List (HloOp τ sig (Elt F))).Forall fun op => op.bufs ⊆ tcRefs τ sig := by
  rw [List.forall_iff_forall_mem]
  intro op h
  rcases List.mem_append.1 h with h | h
  · revert op; rw [← List.forall_iff_forall_mem]; simp
  rcases List.mem_append.1 h with h | h
  · revert op; rw [← List.forall_iff_forall_mem]; simp
  rcases List.mem_append.1 h with h | h
  · revert op; rw [← List.forall_iff_forall_mem]; simp
  · revert op; rw [← List.forall_iff_forall_mem]; simp

/-- The reference runs, and every buffer ends at the operations' result. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run read at its results and its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = takeCoord (coordF (m ((c.tc : Thread nD τ).loc main_arg1))) (sel (F := F) (m ((c.tc : Thread nD τ).loc main_arg1)) (m ((c.tc : Thread nD τ).loc main_arg2)))
        ∧ r.2.mem ((c.tc : Thread nD τ).loc main_v19)
          = takeFeat (m ((c.tc : Thread nD τ).loc main_arg0)) (sel (F := F) (m ((c.tc : Thread nD τ).loc main_arg1)) (m ((c.tc : Thread nD τ).loc main_arg2)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v20).trans (coord_eq _), (h c main_v19).trans (feat_eq _),
    (h c main_arg0).trans (arg_eq _ _ (by simp)), (h c main_arg1).trans (arg_eq _ _ (by simp)), (h c main_arg2).trans (arg_eq _ _ (by simp))⟩)
    (run_main m ρ)

end Cert.Proof.Ref

end
-- ==== Proof.Frames.lean ====
/-
  The frames: each program runs, leaves its arguments as they were and its semaphores at zero.
-/
module

public import proofs.«01_k».proof.Defs
public import proofs.«01_k».proof.Proof.Gen.Kernel
public import proofs.«01_k».proof.Proof.ScRun
public import proofs.«01_k».proof.Proof.SelRow
public import proofs.«01_k».proof.Proof.RefRun

@[expose] public section

noncomputable section

namespace Cert.Proof

open Idealize.ShloMosaic Idealize.SL.Sem

/-- The kernel as printed and the idealised kernel have the same bodies: nothing was rewritten. -/
theorem bodies_eq : Cert.Kernel.defs₀ (F := Bits) = Cert.KernelIdeal.defs₀ (F := Bits) := by
  funext p ℓ a
  rcases p with _ | _ | _ <;> rcases ℓ with _ | _ | _ <;> rfl

/-- So they have the same body table. -/
theorem defs_eq : Cert.Kernel.defs (F := Bits) = Cert.KernelIdeal.defs (F := Bits) :=
  congrArg (fun b => Cert.KernelIdeal.sc.defs (Pipeline.defs Cert.KernelIdeal.pcfgs b)) bodies_eq

/-- The kernel as printed. -/
theorem frame_kernel : Cert.quiescent_Kernel := fun m ρ _ =>
  (θ_run Cert.Kernel.defs _ _).mono (fun r (h : QC (F := Bits) m r) => ⟨fun c => ⟨(h.1 c).1, (h.1 c).2.1, (h.1 c).2.2.1⟩, h.2⟩)
    ((congrArg (fun D => θ_run D (Cert.KernelIdeal.threads (F := Bits)) ⟨m, fun _ => 0, ρ⟩ (QC m)) defs_eq).mpr
      (run_main (F := Bits) m ρ fun _ _ => selAll_lt _ _ _))

/-- The idealised kernel. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (run_main (F := Ideal) m ρ fun _ _ => selAll_lt _ _ _)

/-- The reference. -/
theorem frame_ref : Cert.quiescent_ReferenceIdeal := fun m ρ _ =>
  (θ_run Cert.ReferenceIdeal.defs _ _).mono
    (fun r h => ⟨fun c => ⟨(h c).2.2.1, (h c).2.2.2.1, (h c).2.2.2.2⟩, Idealize.ShloMosaic.sem_eq_zero_of_no_sems (by decide) r.2⟩)
    (Ref.run (F := Ideal) m ρ)

end Cert.Proof
end
-- ==== Proof.RefValue.lean ====
/-
  What the reference takes, over the extended reals: per query the first point whose cell holds it, and that point's
  rows.
-/
module

public import proofs.«01_k».proof.Proof.RefRun
public import Idealize.ShloMosaic.PureOps.Ideal
public import Idealize.ShloMosaic.PureOps.Reduce
public import Idealize.ShloMosaic.Lib.Pointwise
public import Idealize.ShloMosaic.Lib.StableHlo.Predicate
public import Idealize.ShloMosaic.Lib.Routing.Ops

@[expose] public section

noncomputable section

namespace Cert.Proof.Ref

open Cert.ReferenceIdeal Cert.ReferenceIdeal.Gen
open Idealize.ShloMosaic

/-! ## A conjunction over an axis -/

/-- Both bits are set where their conjunction is. -/
theorem andi_eq_one (a b : BitVec 1) : IntOp.andi a b = 1#1 ↔ a = 1#1 ∧ b = 1#1 := by
  revert a b; decide

/-- A conjunction over a list is set where its start and every bit are. -/
theorem foldl_andi {ι : Type} (f : ι → BitVec 1) (l : List ι) (r : BitVec 1) :
    l.foldl (fun r i => IntOp.andi r (f i)) r = 1#1 ↔ r = 1#1 ∧ ∀ i ∈ l, f i = 1#1 := by
  induction l generalizing r with
  | nil => simp
  | cons a l ih => rw [List.foldl_cons, ih, andi_eq_one]; simp [and_assoc]

/-- A reduction by conjunction from one is one where everything it reduces is. -/
theorem reduce_andi {s t : Shape} {axes : List (Fin s.rank)} (x : IVec s 1) (h : s.ReducesTo axes t) (j : t.Idx) :
    Host.reduce IntOp.andi x (constantI S_ 1 1#1) h h_S_ j = 1#1 ↔ ∀ i, h.drop i = j → x i = 1#1 := by
  rw [Host.reduce_eq_foldl, foldl_andi]
  constructor
  · rintro ⟨-, hall⟩ i hi
    refine hall i (List.mem_filter.2 ⟨List.mem_map.2 ⟨s.rowMajor i, List.mem_finRange _, by simp⟩, decide_eq_true hi⟩)
  · exact fun hall => ⟨rfl, fun i hi => hall i (of_decide_eq_true (List.mem_filter.1 hi).2)⟩

/-- A query lies inside on all axes where it does on each. -/
theorem allAxes_iff (b : IVec S2048x8192x4 1) (p : Fin 2048) (q : Fin 8192) :
    allAxes b (ix2 p q) = 1#1 ↔ ∀ a : Fin 4, b (ix3 p q a) = 1#1 := by
  unfold allAxes
  rw [reduce_andi]
  constructor
  · refine fun hall a => hall _ (funext fun k => Fin.ext ?_)
    match k with
    | 0 => exact Shape.ReducesTo.drop_apply_val reducesTo_S2048x8192x4_S2048x8192_d2 (ix3 p q a) 0
    | 1 => exact Shape.ReducesTo.drop_apply_val reducesTo_S2048x8192x4_S2048x8192_d2 (ix3 p q a) 1
  · intro hall i hi
    have h0 : (i 0 : Fin 2048) = p := Fin.ext ((Shape.ReducesTo.drop_apply_val reducesTo_S2048x8192x4_S2048x8192_d2 i 0).symm.trans
      (congrArg Fin.val (congrFun hi 0)))
    have h1 : (i 1 : Fin 8192) = q := Fin.ext ((Shape.ReducesTo.drop_apply_val reducesTo_S2048x8192x4_S2048x8192_d2 i 1).symm.trans
      (congrArg Fin.val (congrFun hi 1)))
    refine (congrArg b (funext fun k => ?_)).trans (hall (i 2 : Fin 4))
    match k with
    | 0 => exact h0
    | 1 => exact h1
    | 2 => rfl

/-! ## The cell test -/

/-- The literal is eight. -/
theorem ofBits_eight : Ideal.ofBits .f32 0x41000000#32 = ((8 : ℝ) : EReal) := by
  simp [Ideal.ofBits, Ideal.ieee, -EReal.coe_mul]; norm_num

/-- The lower corner, in integers. -/
theorem above_iff (X : IVec S2048x4 32) (Y : IVec S8192x4 32) (p : Fin 2048) (q : Fin 8192) (a : Fin 4) :
    above (F := Ideal) X Y (ix3 p q a) = 1#1 ↔ 8 * (X (ix2 p a)).toInt ≤ (Y (ix2 q a)).toInt := by
  have e : above (F := Ideal) X Y (ix3 p q a)
      = Ideal.cmp .ole ((((X (ix2 p a)).toInt : ℝ) : EReal) * Ideal.ofBits .f32 0x41000000#32) (((Y (ix2 q a)).toInt : ℝ) : EReal) := by
    pointwise [above, low, query, coordF]
    rfl
  rw [e, ofBits_eight, ← EReal.coe_mul]
  simp only [Ideal.cmp, EReal.coe_le_coe_iff]
  rw [StableHlo.Predicate.ofBool_eq_one_iff, decide_eq_true_eq, mul_comm]
  exact_mod_cast Iff.rfl

/-- The upper corner, in integers. -/
theorem below_iff (X : IVec S2048x4 32) (Y : IVec S8192x4 32) (p : Fin 2048) (q : Fin 8192) (a : Fin 4) :
    below (F := Ideal) X Y (ix3 p q a) = 1#1 ↔ (Y (ix2 q a)).toInt < 8 * (X (ix2 p a)).toInt + 8 := by
  have e : below (F := Ideal) X Y (ix3 p q a)
      = Ideal.cmp .ogt ((((X (ix2 p a)).toInt : ℝ) : EReal) * Ideal.ofBits .f32 0x41000000#32 + Ideal.ofBits .f32 0x41000000#32)
          (((Y (ix2 q a)).toInt : ℝ) : EReal) := by
    pointwise [below, low, query, coordF]
    rfl
  rw [e, ofBits_eight, ← EReal.coe_mul, ← EReal.coe_add]
  simp only [Ideal.cmp, EReal.coe_lt_coe_iff]
  rw [StableHlo.Predicate.ofBool_eq_one_iff, decide_eq_true_eq, mul_comm]
  exact_mod_cast Iff.rfl

/-- Query `q` lies in the cell of point `p`. -/
def Inside (X : IVec S2048x4 32) (Y : IVec S8192x4 32) (q : Fin 8192) (p : Fin 2048) : Prop :=
  ∀ a : Fin 4, 8 * (X (ix2 p a)).toInt ≤ (Y (ix2 q a)).toInt ∧ (Y (ix2 q a)).toInt < 8 * (X (ix2 p a)).toInt + 8

/-- The reference's hit bit is set where the query lies inside the point's cube. -/
theorem inside_iff (X : IVec S2048x4 32) (Y : IVec S8192x4 32) (q : Fin 8192) (p : Fin 2048) :
    inside (F := Ideal) X Y (ix2 q p) = 1#1 ↔ Inside X Y q p := by
  have e : inside (F := Ideal) X Y (ix2 q p)
      = IntOp.andi (allAxes (above (F := Ideal) X Y) (ix2 p q)) (allAxes (below (F := Ideal) X Y) (ix2 p q)) := by
    pointwise [inside]
  rw [e, andi_eq_one, allAxes_iff, allAxes_iff]
  simp only [above_iff, below_iff]
  exact forall_and.symm

/-! ## The argmax -/

/-- `r` stands no lower than `e`: a greater entry, or the same entry at no later a row. -/
def Better (r e : BitVec 1 × BitVec 32) : Prop := e.1.toNat < r.1.toNat ∨ (e.1 = r.1 ∧ r.2.toInt ≤ e.2.toInt)

/-- A pair is as good as itself. -/
theorem Better.refl (r : BitVec 1 × BitVec 32) : Better r r := .inr ⟨rfl, le_rfl⟩

/-- Being as good is transitive. -/
theorem Better.trans {a b c : BitVec 1 × BitVec 32} (h : Better a b) (h' : Better b c) : Better a c := by
  unfold Better at *
  rcases h with h | ⟨h, k⟩ <;> rcases h' with h' | ⟨h', k'⟩
  · exact .inl (h'.trans h)
  · exact .inl (h' ▸ h)
  · exact .inl (h ▸ h')
  · exact .inr ⟨h'.trans h, k.trans k'⟩

/-- The argmax's step gives the better of its two. -/
theorem step_spec (a b : BitVec 1 × BitVec 32) :
    (reducer_argmax_i1_i32 a b = a ∨ reducer_argmax_i1_i32 a b = b)
      ∧ Better (reducer_argmax_i1_i32 a b) a ∧ Better (reducer_argmax_i1_i32 a b) b := by
  obtain ⟨x, i⟩ := a
  obtain ⟨y, j⟩ := b
  have e : reducer_argmax_i1_i32 (x, i) (y, j)
      = if y.toNat < x.toNat ∨ (x = y ∧ i.toInt < j.toInt) then (x, i) else (y, j) := by
    have hx : x = 0#1 ∨ x = 1#1 := by revert x; decide
    have hy : y = 0#1 ∨ y = 1#1 := by revert y; decide
    have hc : IntOp.cmpi .slt i j = BitVec.ofBool (decide (i.toInt < j.toInt)) := by
      show BitVec.ofBool (i.slt j) = _
      rw [BitVec.slt_eq_decide]
    unfold reducer_argmax_i1_i32
    simp only [hc]
    by_cases h : i.toInt < j.toInt <;> rcases hx with rfl | rfl <;> rcases hy with rfl | rfl <;>
      simp only [h, decide_true, decide_false, Bool.false_eq_true] <;> rfl
  rw [e]
  split
  · rename_i h
    refine ⟨.inl rfl, Better.refl _, ?_⟩
    rcases h with h | ⟨h, k⟩
    · exact .inl h
    · exact .inr ⟨h.symm, k.le⟩
  · rename_i h
    refine ⟨.inr rfl, ?_, Better.refl _⟩
    rw [not_or, not_and] at h
    by_cases hxy : x = y
    · exact .inr ⟨hxy, not_lt.1 (h.2 hxy)⟩
    · exact .inl (lt_of_le_of_ne (not_lt.1 h.1) fun e => hxy (BitVec.eq_of_toNat_eq e))

/-- The fold gives the initial pair or one of the list's, and none of them is better. -/
theorem foldl_spec (L : List (BitVec 1 × BitVec 32)) (z : BitVec 1 × BitVec 32) :
    (L.foldl reducer_argmax_i1_i32 z = z ∨ L.foldl reducer_argmax_i1_i32 z ∈ L)
      ∧ Better (L.foldl reducer_argmax_i1_i32 z) z ∧ ∀ e ∈ L, Better (L.foldl reducer_argmax_i1_i32 z) e := by
  induction L generalizing z with
  | nil => exact ⟨.inl rfl, Better.refl _, by simp⟩
  | cons a L ih =>
    rw [List.foldl_cons]
    obtain ⟨hm, hz, hL⟩ := ih (reducer_argmax_i1_i32 z a)
    obtain ⟨sm, s1, s2⟩ := step_spec z a
    refine ⟨?_, hz.trans s1, ?_⟩
    · rcases hm with h | h
      · rw [h]
        rcases sm with s | s <;> rw [s] <;> simp
      · exact .inr (List.mem_cons_of_mem _ h)
    · intro e he
      rcases List.mem_cons.1 he with rfl | he
      · exact hz.trans s2
      · exact hL e he

/-- A row's number as a word, read back. -/
theorem row_toInt (p : Fin 2048) : (BitVec.ofNat 32 p.val).toInt = p.val := by
  rw [BitVec.toInt_eq_toNat_of_lt] <;> simp <;> omega

/-- The argmax's reduction gives the initial pair or the pair at an index it reduces, and none of them is better. -/
theorem reduce2_spec {s t : Shape} {axes : List (Fin s.rank)} (x : IVec s 1) (y : IVec s 32) (h : s.ReducesTo axes t) (j : t.Idx)
    (r : BitVec 1 × BitVec 32) (hr : r = Host.reduce2 reducer_argmax_i1_i32 x y (constantI S_ 1 0#1) (constantI S_ 32 0#32) h h_S_ j) :
    (r = (0#1, 0#32) ∨ ∃ i, h.drop i = j ∧ r = (x i, y i)) ∧ Better r (0#1, 0#32) ∧ ∀ i, h.drop i = j → Better r (x i, y i) := by
  rw [Host.reduce2_eq_foldl_fiber] at hr
  obtain ⟨hm, hz, hL⟩ := foldl_spec (Host.argReduceFiber x y h j) (0#1, 0#32)
  subst hr
  refine ⟨hm.imp id fun hm => ?_, hz, fun i hi => hL _ ?_⟩
  · obtain ⟨n, hn, e⟩ := List.mem_map.1 hm
    exact ⟨s.rowMajor.symm n, of_decide_eq_true (List.mem_filter.1 hn).2, e.symm⟩
  · refine List.mem_map.2 ⟨s.rowMajor i, List.mem_filter.2 ⟨List.mem_finRange _, decide_eq_true ?_⟩, ?_⟩
    · rw [Equiv.symm_apply_apply]; exact hi
    · rw [Equiv.symm_apply_apply]

/-- The indices that reduce to query `q` are its pairs with the rows. -/
theorem drop_query (q : Fin 8192) (i : S8192x2048.Idx) :
    reducesTo_S8192x2048_S8192_d1.drop i = ix1 q ↔ ∃ p : Fin 2048, i = ix2 q p := by
  constructor
  · intro h
    have h0 : (i 0 : Fin 8192) = q := Fin.ext ((Shape.ReducesTo.drop_apply_val reducesTo_S8192x2048_S8192_d1 i 0).symm.trans
      (congrArg Fin.val (congrFun h 0)))
    refine ⟨(i 1 : Fin 2048), funext fun k => ?_⟩
    match k with
    | 0 => exact h0
    | 1 => rfl
  · rintro ⟨p, rfl⟩
    funext k
    match k with
    | 0 => exact Fin.ext (Shape.ReducesTo.drop_apply_val reducesTo_S8192x2048_S8192_d1 (ix2 q p) 0)

/-- The argmax is the second half of its reduction. -/
theorem argmax_eq_reduce2 (b : IVec S8192x2048 1) : argmax b = fun j =>
    (Host.reduce2 reducer_argmax_i1_i32 b (iotaInDim S8192x2048 32 1) (constantI S_ 1 0#1) (constantI S_ 32 0#32)
      reducesTo_S8192x2048_S8192_d1 h_S_ j).2 := by
  delta argmax; rfl

/-- The argmax over the rows: the first row whose entry is one, or row 0 if there is none. -/
theorem argmax_spec (b : IVec S8192x2048 1) (q : Fin 8192) :
    (∃ p : Fin 2048, argmax b (ix1 q) = BitVec.ofNat 32 p.val ∧ b (ix2 q p) = 1#1 ∧ ∀ p', b (ix2 q p') = 1#1 → p ≤ p')
      ∨ (argmax b (ix1 q) = 0#32 ∧ ∀ p, b (ix2 q p) ≠ 1#1) := by
  obtain ⟨r, hr⟩ : ∃ r, r = Host.reduce2 reducer_argmax_i1_i32 b (iotaInDim S8192x2048 32 1) (constantI S_ 1 0#1) (constantI S_ 32 0#32)
    reducesTo_S8192x2048_S8192_d1 h_S_ (ix1 q) := ⟨_, rfl⟩
  have ea : argmax b (ix1 q) = r.2 := (congrFun (argmax_eq_reduce2 b) (ix1 q)).trans (congrArg Prod.snd hr.symm)
  rw [ea]
  obtain ⟨hm, hz, hL⟩ := reduce2_spec b _ reducesTo_S8192x2048_S8192_d1 (ix1 q) r hr
  clear hr ea
  have hall : ∀ p, Better r (b (ix2 q p), BitVec.ofNat 32 p.val) := fun p => hL _ ((drop_query q _).2 ⟨p, rfl⟩)
  replace hm : r = (0#1, 0#32) ∨ ∃ p : Fin 2048, r = (b (ix2 q p), BitVec.ofNat 32 p.val) := hm.imp id fun ⟨i, hi, e⟩ => by
    obtain ⟨p, rfl⟩ := (drop_query q i).1 hi
    exact ⟨p, e⟩
  have h1 : (1#1 : BitVec 1).toNat = 1 := rfl
  have h0 : (0#1 : BitVec 1).toNat = 0 := rfl
  rcases (show r.1 = 0#1 ∨ r.1 = 1#1 by generalize r.1 = x; revert x; decide) with hr | hr
  · refine .inr ⟨?_, fun p hp => ?_⟩
    · rcases hm with h | h
      · rw [h]
      · obtain ⟨p, hp⟩ := h
        rcases hz with hz | ⟨-, hz⟩
        · rw [hr] at hz; exact absurd hz (by decide)
        · have e2 : r.2 = BitVec.ofNat 32 p.val := congrArg Prod.snd hp
          rw [e2, row_toInt] at hz
          have : (0#32 : BitVec 32).toInt = 0 := rfl
          have hp0 : p.val = 0 := by simp only [this] at hz; omega
          rw [e2, hp0]
    · rcases hall p with h | ⟨h, -⟩
      · rw [hr] at h; exact absurd h (by rw [h0]; omega)
      · rw [hr] at h; exact absurd (h.symm.trans hp) (by decide)
  · rcases hm with h | h
    · rw [h] at hr; exact absurd hr (by decide)
    · obtain ⟨p, hp⟩ := h
      have e1 : r.1 = b (ix2 q p) := congrArg Prod.fst hp
      have e2 : r.2 = BitVec.ofNat 32 p.val := congrArg Prod.snd hp
      refine .inl ⟨p, e2, e1.symm.trans hr, fun p' hp' => ?_⟩
      rcases hall p' with h | ⟨-, h⟩
      · rw [hr] at h
        simp only [hp'] at h
        exact absurd h (lt_irrefl _)
      · rw [e2, row_toInt, row_toInt] at h
        exact Fin.le_def.2 (by exact_mod_cast h)

/-! ## The takes -/

/-- A row number below 2048 is not wrapped. -/
theorem wrapped_apply (s : IVec S8192 32) (q : Fin 8192) (hs : (s (ix1 q)).toNat < 2048) : wrapped s (ix2 q 0) = s (ix1 q) := by
  have e : wrapped s (ix2 q 0) = Scalar.select (IntOp.cmpi .slt (s (ix1 q)) 0#32) (IntOp.addi (s (ix1 q)) 2048#32) (s (ix1 q)) := by
    pointwise [wrapped]
  rw [e]
  have h : (s (ix1 q)).slt 0#32 = false := by
    rw [BitVec.slt_eq_decide, BitVec.toInt_eq_toNat_of_lt (by omega)]
    simp
  show Scalar.select (BitVec.ofBool ((s (ix1 q)).slt 0#32)) _ _ = _
  rw [h]; rfl

/-- A row number below 2048 is in range. -/
theorem inRange_apply (s : IVec S8192 32) (q : Fin 8192) (hs : (s (ix1 q)).toNat < 2048) : inRange s (ix1 q) = 1#1 := by
  unfold inRange
  rw [reduce_andi]
  intro i hi
  have h0 : (i 0 : Fin 8192) = q := Fin.ext ((Shape.ReducesTo.drop_apply_val reducesTo_S8192x1_S8192_d1 i 0).symm.trans
    (congrArg Fin.val (congrFun hi 0)))
  have hi' : i = ix2 q 0 := by
    funext k
    match k with
    | 0 => exact h0
    | 1 => exact Subsingleton.elim (α := Fin 1) _ _
  subst hi'
  have e := wrapped_apply s q hs
  generalize wrapped s = w at e
  pointwise []
  rw [e, andi_eq_one]
  have hI : (s (ix1 q)).toInt = (s (ix1 q)).toNat := BitVec.toInt_eq_toNat_of_lt (by omega)
  constructor
  · show BitVec.ofBool ((0#32 : BitVec 32).sle (s (ix1 q))) = 1#1
    rw [StableHlo.Predicate.ofBool_eq_one_iff, BitVec.sle_eq_decide, decide_eq_true_eq, hI]
    simp
  · show BitVec.ofBool ((s (ix1 q)).sle 2047#32) = 1#1
    rw [StableHlo.Predicate.ofBool_eq_one_iff, BitVec.sle_eq_decide, decide_eq_true_eq, hI, show (2047#32 : BitVec 32).toInt = 2047 from by decide]
    omega

variable {F : FTy → Type} [FloatOps F]

/-- The features' take at a row in range is the row. -/
theorem takeFeat_apply (x : FVec F S2048x512 .f32) (s : IVec S8192 32) (q : Fin 8192) (k : Fin 512) (p : Fin 2048)
    (hp : s (ix1 q) = BitVec.ofNat 32 p.val) : takeFeat x s (ix2 q k) = x (ix2 p k) := by
  have hs : (s (ix1 q)).toNat < 2048 := by rw [hp]; simp; omega
  have e : takeFeat x s (ix2 q k) = Scalar.select (inRange s (ix1 q))
      (Host.gather gather_S2048x512_S8192x1_S8192x512_1_0_n_n_0_1_1512 x (wrapped s) (ix2 q k)) (FloatOps.ofBits .f32 0x7FC00000#32) := by
    pointwise [takeFeat]
  have g : Host.gather gather_S2048x512_S8192x1_S8192x512_1_0_n_n_0_1_1512 x (wrapped s) (ix2 q k) = x (ix2 p k) :=
    Routing.gather_row _ rfl rfl rfl rfl rfl x (wrapped s) q k p ((wrapped_apply s q hs).trans hp) (by decide)
  rw [e, inRange_apply s q hs, g]
  rfl

/-- The coordinates' take at a row in range is the row. -/
theorem takeCoord_apply (x : FVec F S2048x4 .f32) (s : IVec S8192 32) (q : Fin 8192) (k : Fin 4) (p : Fin 2048)
    (hp : s (ix1 q) = BitVec.ofNat 32 p.val) : takeCoord x s (ix2 q k) = x (ix2 p k) := by
  have hs : (s (ix1 q)).toNat < 2048 := by rw [hp]; simp; omega
  have e : takeCoord x s (ix2 q k) = Scalar.select (inRange s (ix1 q))
      (Host.gather gather_S2048x4_S8192x1_S8192x4_1_0_n_n_0_1_14 x (wrapped s) (ix2 q k)) (FloatOps.ofBits .f32 0x7FC00000#32) := by
    pointwise [takeCoord]
  have g : Host.gather gather_S2048x4_S8192x1_S8192x4_1_0_n_n_0_1_14 x (wrapped s) (ix2 q k) = x (ix2 p k) :=
    Routing.gather_row _ rfl rfl rfl rfl rfl x (wrapped s) q k p ((wrapped_apply s q hs).trans hp) (by decide)
  rw [e, inRange_apply s q hs, g]
  rfl

end Cert.Proof.Ref
end
-- ==== Proof.KernelValue.lean ====
/-
  What the kernel leaves, over the extended reals: per query the selected point's rows, and which point that is.
-/
module

public import proofs.«01_k».proof.Proof.SelRow
public import proofs.«01_k».proof.Proof.RefValue
public import proofs.«01_k».proof.Proof.ScMain
public import Idealize.ShloMosaic.Lib.MatmulPlain
public import Idealize.ShloMosaic.Lib.IdealHost

@[expose] public section

noncomputable section

namespace Cert.Proof

open Cert.KernelIdeal Cert.KernelIdeal.Gen
open Idealize.ShloMosaic Idealize.ShloMosaic.TcCoe

/-! ## The packed coordinates tell points apart -/

/-- The packed coordinates of a point in the grid, without wrap-around. -/
theorem pack_toNat (a b c d : BitVec 32) (ha : a.toNat < 24) (hb : b.toNat < 24) (hc : c.toNat < 24) (hd : d.toNat < 24) :
    (pack a b c d).toNat = ((a.toNat * 24 + b.toNat) * 24 + c.toNat) * 24 + d.toNat := by
  simp only [pack, BitVec.toNat_add, BitVec.toNat_mul, BitVec.toNat_ofNat]
  omega

/-- Coordinates below 24 are equal where the packed words are. -/
theorem pack_inj (x y : Fin 4 → BitVec 32) (hx : ∀ a, (x a).toNat < 24) (hy : ∀ a, (y a).toNat < 24) :
    pack (x 0) (x 1) (x 2) (x 3) = pack (y 0) (y 1) (y 2) (y 3) ↔ ∀ a, x a = y a := by
  constructor
  · intro h
    have e := congrArg BitVec.toNat h
    rw [pack_toNat _ _ _ _ (hx 0) (hx 1) (hx 2) (hx 3), pack_toNat _ _ _ _ (hy 0) (hy 1) (hy 2) (hy 3)] at e
    have h0 := hx 0; have h1 := hx 1; have h2 := hx 2; have h3 := hx 3
    have k0 := hy 0; have k1 := hy 1; have k2 := hy 2; have k3 := hy 3
    intro a
    refine BitVec.eq_of_toNat_eq ?_
    match a with
    | 0 => omega
    | 1 => omega
    | 2 => omega
    | 3 => omega
  · intro h
    rw [h 0, h 1, h 2, h 3]

/-- A coordinate shifted right by three bits is an eighth of it. -/
theorem cell_toNat (y : BitVec 32) (hy : y.toNat < 192) : (y.sshiftRight' 3#32).toNat = y.toNat / 8 := by
  have hm : y.msb = false := by
    rw [BitVec.msb_eq_false_iff_two_mul_lt]; omega
  show (y.sshiftRight (3#32 : BitVec 32).toNat).toNat = _
  rw [BitVec.sshiftRight_eq_of_msb_false hm, BitVec.toNat_ushiftRight, Nat.shiftRight_eq_div_pow]
  rfl

/-! ## The selected row is the reference's -/

/-- Every coordinate lies in the grid. -/
def InGrid (X : IVec S2048x4 32) (Y : IVec S8192x4 32) : Prop := (∀ i, (X i).toNat < 24) ∧ ∀ i, (Y i).toNat < 192

variable (X : IVec S2048x4 32) (Y : IVec S8192x4 32)

/-- The points' coordinates, transposed. -/
abbrev xT : IVec S4x2048 32 := transpose S4x2048 [1, 0] X transposes_S2048x4_S4x2048_1_0
/-- The queries' coordinates, transposed. -/
abbrev yT : IVec S4x8192 32 := transpose S4x8192 [1, 0] Y transposes_S8192x4_S4x8192_1_0

/-- The transposed points' coordinates, at an element. -/
theorem xT_apply (a : Fin 4) (p : Fin 2048) : xT X (ix2 a p) = X (ix2 p a) := by
  pointwise []

/-- The transposed queries' coordinates, at an element. -/
theorem yT_apply (a : Fin 4) (q : Fin 8192) : yT Y (ix2 a q) = Y (ix2 q a) := by
  pointwise []

/-- A query's cell is an eighth of its coordinates. -/
theorem cellY_toNat (h : InGrid X Y) (q : Fin 8192) (a : Fin 4) :
    (cellY (F := Ideal) (yT Y) q a).toNat = (Y (ix2 q a)).toNat / 8 := by
  unfold cellY
  rw [yT_apply]
  exact cell_toNat _ (h.2 _)

/-- The packed words agree where every coordinate does. -/
theorem key_iff (h : InGrid X Y) (q : Fin 8192) (p : Fin 2048) :
    keyX (F := Ideal) X p = keyY (F := Ideal) (yT Y) q ↔ ∀ a, X (ix2 p a) = cellY (F := Ideal) (yT Y) q a :=
  pack_inj (fun a => X (ix2 p a)) (fun a => cellY (F := Ideal) (yT Y) q a) (fun a => h.1 _) fun a => by
    have := h.2 (ix2 q a)
    rw [cellY_toNat X Y h]; omega

/-- The packed words agree where the query lies in the point's cell. -/
theorem key_iff_inside (h : InGrid X Y) (q : Fin 8192) (p : Fin 2048) :
    keyX (F := Ideal) X p = keyY (F := Ideal) (yT Y) q ↔ Ref.Inside X Y q p := by
  rw [key_iff X Y h]
  refine forall_congr' fun a => ?_
  have hx := h.1 (ix2 p a)
  have hy := h.2 (ix2 q a)
  rw [BitVec.toInt_eq_toNat_of_lt (x := X (ix2 p a)) (by omega), BitVec.toInt_eq_toNat_of_lt (x := Y (ix2 q a)) (by omega)]
  rw [← BitVec.toNat_inj, cellY_toNat X Y h]
  omega

/-- Query `q`'s block, and its place there. -/
def blk (q : Fin 8192) : Fin grid0.N := ⟨q.val / 512, by rw [N_0]; omega⟩
def plc (q : Fin 8192) : Fin 512 := ⟨q.val % 512, Nat.mod_lt _ (by decide)⟩

/-- A query is the one at its place of its block. -/
theorem qOf_blk (q : Fin 8192) : qOf (blk q) (plc q) = q := Fin.ext (Nat.div_add_mod _ _)

/-- The row number of a query is the one its block's step wrote. -/
theorem selAll_apply (X2 : IVec S4x8192 32) (q : Fin 8192) :
    selAll (F := Ideal) X X2 (ix1 q) = selB (F := Ideal) X X2 (grid0.coords (blk q)) (ix1 (plc q)) := rfl

/-- The word 2048 is 2048. -/
theorem two_pow_toInt : (2048#32 : BitVec 32).toInt = 2048 := by decide

/-- The result coordinates: the query's cell where a row matched, else point 0's coordinates. -/
theorem fctAll_apply (X1 : IVec S4x2048 32) (X2 : IVec S4x8192 32) (q : Fin 8192) (a : Fin 4) :
    fctAll (F := Ideal) X X1 X2 (ix2 a q)
      = if (minB (F := Ideal) X X2 (grid0.coords (blk q)) (ix1 (plc q))).toInt < (2048#32 : BitVec 32).toInt
        then (((cellY (F := Ideal) X2 q a).toInt : ℝ) : EReal) else (((X1 (ix2 a 0)).toInt : ℝ) : EReal) := by
  have hx : xHead (F := Ideal) X1 (ix2 a 0) = X1 (ix2 a 0) := by
    unfold xHead
    congr 1
    funext b
    refine Fin.ext ?_
    match b with
    | 0 => simp
    | 1 => simp
  have e : fctAll (F := Ideal) X X1 X2 (ix2 a q)
      = Scalar.select (IntOp.cmpi .slt (minB (F := Ideal) X X2 (grid0.coords (blk q)) (ix1 (plc q))) 2048#32)
        (FloatOps.sitofp (F := Ideal) .f32 ((yBlk (F := Ideal) X2 (grid0.coords (blk q)) (ix2 a (plc q))).sshiftRight' 3#32))
        (FloatOps.sitofp (F := Ideal) .f32 (xHead (F := Ideal) X1 (ix2 a 0))) := by
    show fctB (F := Ideal) X X1 X2 (grid0.coords (blk q)) (ix2 a (plc q)) = _
    unfold fctB k0_pay6
    pointwise [k0_pay2, k0_pay4]
    rfl
  rw [e, select_slt_if, hx, yBlk_apply, qOf_blk]
  rfl

/-- Per query one row: the kernel's, the reference's, and the one whose coordinates the kernel writes. -/
theorem row_spec (h : InGrid X Y) (q : Fin 8192) :
    ∃ p : Fin 2048, selAll (F := Ideal) X (yT Y) (ix1 q) = BitVec.ofNat 32 p.val
      ∧ Ref.sel (F := Ideal) X Y (ix1 q) = BitVec.ofNat 32 p.val
      ∧ ∀ a : Fin 4, fctAll (F := Ideal) X (xT X) (yT Y) (ix2 a q) = (((X (ix2 p a)).toInt : ℝ) : EReal) := by
  have hr := Ref.argmax_spec (Ref.inside (F := Ideal) X Y) q
  simp only [Ref.inside_iff, ne_eq] at hr
  rw [selAll_apply, selB_eq]
  simp only [fctAll_apply]
  have hk := selB_spec (F := Ideal) X (yT Y) (blk q) (plc q)
  rw [qOf_blk] at hk
  simp only [key_iff_inside X Y h, ne_eq] at hk
  rcases hk with ⟨p, hp, hm, hl⟩ | ⟨hp, hn⟩
  · have hlt : (BitVec.ofNat 32 p.val).toInt < (2048#32 : BitVec 32).toInt := by
      rw [Ref.row_toInt, two_pow_toInt]; omega
    refine ⟨p, ?_, ?_, fun a => ?_⟩
    · rw [hp, if_pos hlt]
    · rcases hr with ⟨p', hp', hm', hl'⟩ | ⟨-, hn'⟩
      · exact hp'.trans (by rw [le_antisymm (hl' p hm) (hl p' hm')])
      · exact absurd hm (hn' p)
    · rw [hp, if_pos hlt, (key_iff X Y h q p).1 ((key_iff_inside X Y h q p).2 hm) a]
  · have hlt : ¬ (2048#32 : BitVec 32).toInt < (2048#32 : BitVec 32).toInt := lt_irrefl _
    refine ⟨0, ?_, ?_, fun a => ?_⟩
    · rw [hp, if_neg hlt]; rfl
    · rcases hr with ⟨p', hp', hm', -⟩ | ⟨hz, -⟩
      · exact absurd hm' (hn p')
      · exact hz
    · rw [hp, if_neg hlt, xT_apply]

/-! ## The flags -/

/-- Row `k`'s group, as the kernel's signed arithmetic finds it. -/
theorem group_word (k : Fin 512) :
    Scalar.select (IntOp.andi
        (IntOp.cmpi .ne (IntOp.subi (BitVec.setWidth 32 (IntOp.cmpi .sgt (BitVec.ofNat 32 k.val) 0#32))
          (BitVec.setWidth 32 (IntOp.cmpi .slt (BitVec.ofNat 32 k.val) 0#32)))
          (Scalar.subi (Scalar.extui (Scalar.cmpi .sgt 16#32 0#32)) (Scalar.extui (Scalar.cmpi .slt 16#32 0#32))))
        (IntOp.cmpi .ne (IntOp.remsi .vector (BitVec.ofNat 32 k.val) 16#32) 0#32))
      (IntOp.subi (IntOp.divsi .vector (BitVec.ofNat 32 k.val) 16#32) 1#32) (IntOp.divsi .vector (BitVec.ofNat 32 k.val) 16#32)
      = BitVec.ofNat 32 (k.val / 16) := by
  have hk : (BitVec.ofNat 32 k.val).toNat = k.val := by simp; omega
  have hI : (BitVec.ofNat 32 k.val).toInt = k.val := by
    rw [BitVec.toInt_eq_toNat_of_lt (by omega), hk]
  have hdiv : IntOp.divsi .vector (BitVec.ofNat 32 k.val) 16#32 = BitVec.ofNat 32 (k.val / 16) := by
    unfold IntOp.divsi
    rw [if_neg (by rintro (h | ⟨-, h⟩) <;> exact absurd h (by decide))]
    have hm : (BitVec.ofNat 32 k.val).msb = false := by
      rw [BitVec.msb_eq_false_iff_two_mul_lt]; omega
    have hm' : (16#32 : BitVec 32).msb = false := by decide
    rw [BitVec.sdiv_eq, hm, hm']
    refine BitVec.eq_of_toNat_eq ?_
    simp only [BitVec.udiv_eq, BitVec.toNat_udiv, hk, BitVec.toNat_ofNat]
    rw [show 16 % 2 ^ 32 = 16 from rfl]
    omega
  rcases Nat.eq_zero_or_pos k.val with h | h
  · rw [h]; decide
  · have hgt : IntOp.cmpi .sgt (BitVec.ofNat 32 k.val) 0#32 = 1#1 := by
      show BitVec.ofBool ((0#32 : BitVec 32).slt (BitVec.ofNat 32 k.val)) = 1#1
      rw [BitVec.slt_eq_decide, hI, decide_eq_true (by simpa using h)]; rfl
    have hlt : IntOp.cmpi .slt (BitVec.ofNat 32 k.val) 0#32 = 0#1 := by
      show BitVec.ofBool ((BitVec.ofNat 32 k.val).slt 0#32) = 0#1
      rw [BitVec.slt_eq_decide, hI, decide_eq_false (by simp)]; rfl
    rw [hgt, hlt, hdiv]
    have hz : IntOp.andi (IntOp.cmpi .ne (IntOp.subi (BitVec.setWidth 32 1#1) (BitVec.setWidth 32 0#1))
          (Scalar.subi (Scalar.extui (Scalar.cmpi .sgt 16#32 0#32)) (Scalar.extui (Scalar.cmpi .slt 16#32 0#32))))
        (IntOp.cmpi .ne (IntOp.remsi .vector (BitVec.ofNat 32 k.val) 16#32) 0#32) = 0#1 := by
      generalize IntOp.cmpi .ne (IntOp.remsi .vector (BitVec.ofNat 32 k.val) 16#32) 0#32 = b
      revert b
      decide
    rw [hz]; rfl

/-- A true comparison, as a float, is one. -/
theorem one_word : FloatOps.sitofp (F := Ideal) .f32 (BitVec.setWidth 32 (BitVec.ofBool true)) = 1 := by
  show (((BitVec.setWidth 32 (BitVec.ofBool true)).toInt : ℝ) : EReal) = 1
  rw [show (BitVec.setWidth 32 (BitVec.ofBool true)).toInt = 1 from by decide]
  norm_num

/-- A false comparison, as a float, is zero. -/
theorem zero_word : FloatOps.sitofp (F := Ideal) .f32 (BitVec.setWidth 32 (BitVec.ofBool false)) = 0 := by
  show (((BitVec.setWidth 32 (BitVec.ofBool false)).toInt : ℝ) : EReal) = 0
  rw [show (BitVec.setWidth 32 (BitVec.ofBool false)).toInt = 0 from by decide]
  norm_num

/-- The flags are whether a product of the selected rows with the groups' indicator is positive. -/
theorem flagB_src (X2 : IVec S4x8192 32) (t : Fin grid0.N) :
    ∃ (L : FVec Ideal S1x512 .f32) (R : FVec Ideal S512x32 .f32),
      (∀ k : Fin 512, L (ix2 0 k) = (((selB (F := Ideal) X X2 (grid0.coords t) (ix1 k)).toInt : ℝ) : EReal))
      ∧ (∀ (k : Fin 512) (g : Fin 32), R (ix2 k g) = if k.val / 16 = g.val then 1 else 0)
      ∧ flagB (F := Ideal) X X2 (grid0.coords t)
          = extui 32 (cmpf .ogt (matmul dot_S1x512_S512x32_S1x32_1_0_0_1_n_n none L R (constant S1x32 .f32 0x00000000#32))
              (broadcast S1x32 (Scalar.ofBits .f32 0x00000000#32))) natLt_1_32 := by
  unfold flagB k0_pay1
  dsimp only
  refine ⟨_, _, ?_, ?_, rfl⟩
  · intro k
    pointwise []
    rfl
  · intro k g
    pointwise [k0_pay8, k0_pay9, k0_pay10, rowIdx]
    rw [group_word]
    by_cases h : k.val / 16 = g.val
    · rw [if_pos h, h]
      simp only [IntOp.cmpi, beq_self_eq_true]
      exact one_word
    · have hne : (BitVec.ofNat 32 (k.val / 16) == BitVec.ofNat 32 g.val) = false := beq_false_of_ne fun e => h (by
        have := congrArg BitVec.toNat e
        simp only [BitVec.toNat_ofNat] at this
        omega)
      rw [if_neg h]
      simp only [IntOp.cmpi, hne]
      exact zero_word

/-- A flag is whether a sum of products is positive. -/
theorem flagB_apply (L : FVec Ideal S1x512 .f32) (R : FVec Ideal S512x32 .f32) (g : Fin 32) :
    extui 32 (cmpf .ogt (matmul dot_S1x512_S512x32_S1x32_1_0_0_1_n_n none L R (constant S1x32 .f32 0x00000000#32))
              (broadcast S1x32 (Scalar.ofBits .f32 0x00000000#32))) natLt_1_32 (ix2 0 g)
      = (Ideal.cmp .ogt (∑ k : Fin 512, L (ix2 0 k) * R (ix2 k g)) 0).setWidth 32 := by
  have e : FloatOps.matmul (F := Ideal) dot_S1x512_S512x32_S1x32_1_0_0_1_n_n none L R (constant S1x32 .f32 0x00000000#32) (ix2 0 g)
      = constant (F := Ideal) S1x32 .f32 0x00000000#32 (ix2 0 g) + ∑ k : Fin 512, L (ix2 0 k) * R (ix2 k g) :=
    Ideal.matmul_plain_apply none L R _ 0 g
  have z : constant (F := Ideal) S1x32 .f32 0x00000000#32 (ix2 0 g) = 0 := Ideal.ofBits_zero_f32
  rw [z, zero_add] at e
  rw [← e, ← Ideal.ofBits_zero_f32]
  rfl

/-- Where a group's flag is not positive, every query of the group selected row 0. -/
theorem sel_zero (X2 : IVec S4x8192 32) (t : Fin grid0.N) (g : Fin 32)
    (hg : ¬ 0 < (flagB (F := Ideal) X X2 (grid0.coords t) (ix2 0 g)).toInt) (k : Fin 512) (hk : k.val / 16 = g.val) :
    selB (F := Ideal) X X2 (grid0.coords t) (ix1 k) = 0#32 := by
  obtain ⟨L, R, hL, hR, e⟩ := flagB_src X X2 t
  rw [e, flagB_apply] at hg
  have hs : ¬ 0 < ∑ k : Fin 512, L (ix2 0 k) * R (ix2 k g) := fun hpos => hg (by
    have : Ideal.cmp .ogt (∑ k : Fin 512, L (ix2 0 k) * R (ix2 k g)) 0 = 1#1 := by
      show BitVec.ofBool (decide (0 < ∑ k : Fin 512, L (ix2 0 k) * R (ix2 k g))) = 1#1
      rw [decide_eq_true hpos]; rfl
    rw [this]; decide)
  have hsel : ∀ k, (selB (F := Ideal) X X2 (grid0.coords t) (ix1 k)).toInt = (selB (F := Ideal) X X2 (grid0.coords t) (ix1 k)).toNat := fun k =>
    BitVec.toInt_eq_toNat_of_lt (by have := selB_lt (F := Ideal) X X2 t k; omega)
  have hL0 : ∀ k, 0 ≤ L (ix2 0 k) := fun k => by
    rw [hL, hsel]
    exact_mod_cast Nat.zero_le _
  have hnn : ∀ k ∈ (Finset.univ : Finset (Fin 512)), 0 ≤ L (ix2 0 k) * R (ix2 k g) := fun k _ => by
    rw [hR]
    split
    · rw [mul_one]; exact hL0 k
    · rw [mul_zero]
  have hle := (Finset.single_le_sum hnn (Finset.mem_univ k)).trans (not_lt.1 hs)
  rw [hR, if_pos hk, mul_one, hL, hsel] at hle
  have h0 : (selB (F := Ideal) X X2 (grid0.coords t) (ix1 k)).toNat ≤ 0 := by exact_mod_cast hle
  exact BitVec.eq_of_toNat_eq (by simpa using h0)

/-! ## The features -/

/-- A matrix index is its row and its column. -/
theorem idx2_eta {n k : ℕ} (r : (⟨2, ![n, k]⟩ : Shape).Idx) : r = ix2 (r 0) (r 1) := by
  funext a
  match a with
  | 0 => rfl
  | 1 => rfl

/-- The row a word names, for a row of the features. -/
theorem rowAt_ofNat (p : Fin 2048) : rowAt (BitVec.ofNat 32 p.val) = p := by
  refine Fin.ext ?_
  show min (BitVec.ofNat 32 p.val).toNat 2047 = p.val
  simp; omega

variable (m : (ℓ : Loc nD τ sig) → Buf (Elt Ideal) ℓ)

/-- The features' result at query `q` is the selected row. -/
theorem outVal_apply (d : Dev nD) (q : Fin 8192) (k : Fin 512) (p : Fin 2048)
    (hp : selVal m d (ix1 q) = BitVec.ofNat 32 p.val) : outVal m d (ix2 q k) = featM m d (ix2 p k) := by
  have hq : q.val < 8192 := q.isLt
  unfold outVal tileVal
  show (if 512 * (q.val / 512) ≤ q.val ∧ q.val < 512 * (q.val / 512) + 16 * 32
      ∧ 0 < (flagB (F := Ideal) (coordM m d) (queryT m d) (grid0.coords (blk q))
          (ix2 0 (⟨(q.val - 512 * (q.val / 512)) / 16 % 32, Nat.mod_lt _ (by decide)⟩ : Fin 32))).toInt
    then featM m d (ix2 (rowAt (selVal m d (ix1 (⟨512 * (q.val / 512) + (q.val - 512 * (q.val / 512)) % 512, by omega⟩ : Fin 8192)))) k)
    else featM m d (ix2 0 k)) = _
  have hi : (⟨512 * (q.val / 512) + (q.val - 512 * (q.val / 512)) % 512, by omega⟩ : Fin 8192) = q := Fin.ext (by
    show 512 * (q.val / 512) + (q.val - 512 * (q.val / 512)) % 512 = q.val
    omega)
  rw [hi, hp, rowAt_ofNat]
  split
  · rfl
  · rename_i hn
    have hf : ¬ 0 < (flagB (F := Ideal) (coordM m d) (queryT m d) (grid0.coords (blk q))
          (ix2 0 (⟨(q.val - 512 * (q.val / 512)) / 16 % 32, Nat.mod_lt _ (by decide)⟩ : Fin 32))).toInt :=
      fun h => hn ⟨by omega, by omega, h⟩
    have hz := sel_zero (coordM m d) (queryT m d) (blk q) _ hf (plc q) (by
      show q.val % 512 / 16 = (q.val - 512 * (q.val / 512)) / 16 % 32
      omega)
    have e : BitVec.ofNat 32 p.val = 0#32 := hp.symm.trans hz
    have hp0 : p = 0 := Fin.ext (by
      have := congrArg BitVec.toNat e
      simp only [BitVec.toNat_ofNat] at this
      show p.val = 0
      omega)
    rw [hp0]

/-- The features' result is the reference's. -/
theorem feat_value (d : Dev nD) (Y : IVec S8192x4 32) (hY : Y = m ((SparseCore.T d).loc main_arg2)) (h : InGrid (coordM m d) Y) :
    outVal m d = Ref.takeFeat (F := Ideal) (featM m d) (Ref.sel (F := Ideal) (coordM m d) Y) := by
  subst hY
  funext r
  obtain ⟨p, hs, hr, -⟩ := row_spec (coordM m d) _ h (r 0)
  rw [idx2_eta r]
  exact (outVal_apply m d (r 0) (r 1) p hs).trans (Ref.takeFeat_apply (featM m d) _ (r 0) (r 1) p hr).symm

/-- The coordinates' result is the reference's. -/
theorem coord_value (d : Dev nD) (Y : IVec S8192x4 32) (hY : Y = m ((SparseCore.T d).loc main_arg2)) (h : InGrid (coordM m d) Y) :
    fctT m d = Ref.takeCoord (F := Ideal) (Ref.coordF (F := Ideal) (coordM m d)) (Ref.sel (F := Ideal) (coordM m d) Y) := by
  subst hY
  funext r
  obtain ⟨p, -, hr, hc⟩ := row_spec (coordM m d) _ h (r 0)
  rw [idx2_eta r]
  refine Eq.trans ?_ ((hc (r 1)).trans (Ref.takeCoord_apply (Ref.coordF (F := Ideal) (coordM m d)) _ (r 0) (r 1) p hr).symm)
  generalize (r 0 : Fin 8192) = q
  generalize (r 1 : Fin 4) = a
  show transpose S8192x4 [1, 0] (fctVal m d) transposes_S4x8192_S8192x4_1_0 (ix2 q a) = fctVal m d (ix2 a q)
  generalize fctVal m d = f
  pointwise []

end Cert.Proof
end
-- ==== Proof.Value.lean ====
/-
  The value: on coordinates inside the grid, the idealised kernel and the reference give the same results.
-/
module

public import proofs.«01_k».proof.Proof.Frames
public import proofs.«01_k».proof.Proof.KernelValue

@[expose] public section

noncomputable section

namespace Cert.Proof

open Idealize.ShloMosaic Idealize.SL.Sem

/-- The precondition's shapes broadcast. -/
instance pre_facts : Cert.Pre_coords_in_grid.Facts where
  bcast_S_S2048x4 := by decide
  bcast_S_S8192x4 := by decide

/-- A signed word between zero and a small bound is that small as a natural number. -/
theorem lt_of_signed (x b : BitVec 32) (hb : b.toNat < 2 ^ 31)
    (h : IntOp.andi (IntOp.cmpi .sge x 0#32) (IntOp.cmpi .slt x b) = 1#1) : x.toNat < b.toNat := by
  rw [Ref.andi_eq_one] at h
  obtain ⟨h0, h1⟩ := h
  have h0 : BitVec.ofBool ((0#32 : BitVec 32).sle x) = 1#1 := h0
  have h1 : BitVec.ofBool (x.slt b) = 1#1 := h1
  rw [StableHlo.Predicate.ofBool_eq_one_iff, BitVec.sle_eq_decide, decide_eq_true_eq] at h0
  rw [StableHlo.Predicate.ofBool_eq_one_iff, BitVec.slt_eq_decide, decide_eq_true_eq, BitVec.toInt_eq_toNat_of_lt (x := b) (by omega)] at h1
  rw [show (0#32 : BitVec 32).toInt = 0 from by decide] at h0
  rw [BitVec.toInt_eq_toNat_cond] at h0 h1
  have := x.isLt
  split at h0 <;> omega

/-- What the precondition says: the coordinates lie in the grid. -/
theorem inGrid_of_pre (a0 : FVec Ideal Cert.Pre_coords_in_grid.S2048x512 .f32) (X : IVec Cert.Pre_coords_in_grid.S2048x4 32) (Y : IVec Cert.Pre_coords_in_grid.S8192x4 32)
    (h : (Cert.Pre_coords_in_grid.fn (F := Ideal) a0 X Y).1 = (fun _ => 1#1)
      ∧ (Cert.Pre_coords_in_grid.fn (F := Ideal) a0 X Y).2 = (fun _ => 1#1)) : InGrid X Y :=
  ⟨fun i => lt_of_signed (X i) 24#32 (by decide) (congrFun h.1 i),
   fun i => lt_of_signed (Y i) 192#32 (by decide) (congrFun h.2 i)⟩

/-- On coordinates inside the grid, the kernel's results are the reference's. -/
theorem algebraic : Cert.algebraic_KernelIdeal_ReferenceIdeal_pre_coords_in_grid := fun m g m' g' hpre hargs =>
  ⟨fun c => fctT (F := Ideal) m c, fun c => outVal (F := Ideal) m c,
   (θ_run Cert.KernelIdeal.defs _ _).mono
     (fun _ h c => ⟨(h.1 c).2.2.2.1, (h.1 c).2.2.2.2, (h.1 c).1, (h.1 c).2.1, (h.1 c).2.2.1⟩)
     (run_main (F := Ideal) m g fun _ _ => selAll_lt _ _ _),
   (θ_run Cert.ReferenceIdeal.defs _ _).mono
     (fun _ h c => by
       obtain ⟨h0, h1, h2⟩ := hargs c
       have hg := inGrid_of_pre _ _ _ (hpre c)
       refine ⟨(h c).1.trans ?_, (h c).2.1.trans ?_, (h c).2.2⟩
       · rw [h1, h2]
         exact (coord_value m c _ rfl hg).symm
       · rw [h0, h1, h2]
         exact (feat_value m c _ rfl hg).symm)
     (Ref.run (F := Ideal) m' g')⟩

end Cert.Proof
end
-- ==== Proof.lean ====
module

public import proofs.«01_k».proof.Defs
public import proofs.«01_k».proof.Proof.Value

@[expose] public section

noncomputable section

namespace Cert.Proof

/-- All the claims. -/
theorem claim : Cert.Claim :=
  ⟨Cert.Kernel.Gen.facts, Cert.KernelIdeal.Gen.facts, Cert.ReferenceIdeal.Gen.facts, pre_facts, frame_kernel,
    frame_ideal, fun m g _ => frame_ideal m g trivial, frame_ref, fun m g _ => frame_ref m g trivial, trivial, algebraic⟩

end Cert.Proof

end
